-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512 : Shape := ⟨1, ![512]⟩
abbrev S_ : Shape := ⟨0, ![]⟩
abbrev S10240000 : Shape := ⟨1, ![10240000]⟩
abbrev S20000x1x1024 : Shape := ⟨3, ![20000, 1, 1024]⟩
abbrev S20000 : Shape := ⟨1, ![20000]⟩
abbrev S1 : Shape := ⟨1, ![1]⟩
abbrev S3072x1025 : Shape := ⟨2, ![3072, 1025]⟩
abbrev S3072x1024 : Shape := ⟨2, ![3072, 1024]⟩
abbrev S3072 : Shape := ⟨1, ![3072]⟩
abbrev S512x2561 : Shape := ⟨2, ![512, 2561]⟩
abbrev S10240512 : Shape := ⟨1, ![10240512]⟩
abbrev S20480 : Shape := ⟨1, ![20480]⟩
abbrev S1048576 : Shape := ⟨1, ![1048576]⟩
abbrev S2048 : Shape := ⟨1, ![2048]⟩
abbrev S2048x512 : Shape := ⟨2, ![2048, 512]⟩
abbrev S1x2048 : Shape := ⟨2, ![1, 2048]⟩
abbrev S1025 : Shape := ⟨1, ![1025]⟩
abbrev S512x512 : Shape := ⟨2, ![512, 512]⟩
abbrev S512x1024 : Shape := ⟨2, ![512, 1024]⟩
abbrev S512x1 : Shape := ⟨2, ![512, 1]⟩
abbrev S20001x1x1024 : Shape := ⟨3, ![20001, 1, 1024]⟩
abbrev S1x512 : Shape := ⟨2, ![1, 512]⟩
abbrev S1024x1x1024 : Shape := ⟨3, ![1024, 1, 1024]⟩
abbrev S1x1024 : Shape := ⟨2, ![1, 1024]⟩
abbrev S1024x1024 : Shape := ⟨2, ![1024, 1024]⟩
abbrev S1x20480 : Shape := ⟨2, ![1, 20480]⟩
abbrev S1x1 : Shape := ⟨2, ![1, 1]⟩
abbrev S1024 : Shape := ⟨1, ![1024]⟩
abbrev S1024x1 : Shape := ⟨2, ![1024, 1]⟩
abbrev S20001 : Shape := ⟨1, ![20001]⟩

abbrev nBuf : Space → Nat
  | .hbm => 29
  | .vmem => 32
  | .smem => 1
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S_, .i32⟩
  | .hbm, ⟨3, _⟩ => ⟨S10240000, .f32⟩
  | .hbm, ⟨4, _⟩ => ⟨S20000x1x1024, .f32⟩
  | .hbm, ⟨5, _⟩ => ⟨S20000, .f32⟩
  | .hbm, ⟨6, _⟩ => ⟨S1, .f32⟩
  | .hbm, ⟨7, _⟩ => ⟨S3072x1025, .f32⟩
  | .hbm, ⟨8, _⟩ => ⟨S3072x1024, .f32⟩
  | .hbm, ⟨9, _⟩ => ⟨S3072, .f32⟩
  | .hbm, ⟨10, _⟩ => ⟨S3072, .f32⟩
  | .hbm, ⟨11, _⟩ => ⟨S512x2561, .f32⟩
  | .hbm, ⟨12, _⟩ => ⟨S512, .f32⟩
  | .hbm, ⟨13, _⟩ => ⟨S_, .f32⟩
  | .hbm, ⟨14, _⟩ => ⟨S10240512, .f32⟩
  | .hbm, ⟨15, _⟩ => ⟨S20480, .f32⟩
  | .hbm, ⟨16, _⟩ => ⟨S20480, .f32⟩
  | .hbm, ⟨17, _⟩ => ⟨S1025, .f32⟩
  | .hbm, ⟨18, _⟩ => ⟨S512x512, .f32⟩
  | .hbm, ⟨19, _⟩ => ⟨S512x1024, .f32⟩
  | .hbm, ⟨20, _⟩ => ⟨S512x1024, .f32⟩
  | .hbm, ⟨21, _⟩ => ⟨S512x1, .f32⟩
  | .hbm, ⟨22, _⟩ => ⟨S512, .f32⟩
  | .hbm, ⟨23, _⟩ => ⟨S1, .f32⟩
  | .hbm, ⟨24, _⟩ => ⟨S20001x1x1024, .f32⟩
  | .hbm, ⟨25, _⟩ => ⟨S1x512, .f32⟩
  | .hbm, ⟨26, _⟩ => ⟨S1, .f32⟩
  | .hbm, ⟨27, _⟩ => ⟨S20001, .f32⟩
  | .hbm, ⟨28, _⟩ => ⟨S20000, .f32⟩
  | .local _ .vmem, ⟨0, _⟩ => ⟨S1048576, .f32⟩
  | .local _ .vmem, ⟨1, _⟩ => ⟨S1048576, .f32⟩
  | .local _ .vmem, ⟨2, _⟩ => ⟨S512, .f32⟩
  | .local _ .vmem, ⟨3, _⟩ => ⟨S2048, .f32⟩
  | .local _ .vmem, ⟨4, _⟩ => ⟨S2048, .f32⟩
  | .local _ .vmem, ⟨5, _⟩ => ⟨S1048576, .f32⟩
  | .local _ .vmem, ⟨6, _⟩ => ⟨S1048576, .f32⟩
  | .local _ .vmem, ⟨7, _⟩ => ⟨S2048, .f32⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S1024x1x1024, .f32⟩
  | .local _ .vmem, ⟨12, _⟩ => ⟨S1024x1x1024, .f32⟩
  | .local _ .vmem, ⟨13, _⟩ => ⟨S20480, .f32⟩
  | .local _ .vmem, ⟨14, _⟩ => ⟨S20480, .f32⟩
  | .local _ .vmem, ⟨15, _⟩ => ⟨S512, .f32⟩
  | .local _ .vmem, ⟨16, _⟩ => ⟨S512, .f32⟩
  | .local _ .vmem, ⟨17, _⟩ => ⟨S1025, .f32⟩
  | .local _ .vmem, ⟨18, _⟩ => ⟨S3072x1025, .f32⟩
  | .local _ .vmem, ⟨19, _⟩ => ⟨S3072x1024, .f32⟩
  | .local _ .vmem, ⟨20, _⟩ => ⟨S3072, .f32⟩
  | .local _ .vmem, ⟨21, _⟩ => ⟨S3072, .f32⟩
  | .local _ .vmem, ⟨22, _⟩ => ⟨S512x512, .f32⟩
  | .local _ .vmem, ⟨23, _⟩ => ⟨S512x1024, .f32⟩
  | .local _ .vmem, ⟨24, _⟩ => ⟨S512x1024, .f32⟩
  | .local _ .vmem, ⟨25, _⟩ => ⟨S512, .f32⟩
  | .local _ .vmem, ⟨26, _⟩ => ⟨S512, .f32⟩
  | .local _ .vmem, ⟨27, _⟩ => ⟨S1024x1x1024, .f32⟩
  | .local _ .vmem, ⟨28, _⟩ => ⟨S1024x1x1024, .f32⟩
  | .local _ .vmem, ⟨29, _⟩ => ⟨S1x512, .f32⟩
  | .local _ .vmem, ⟨30, _⟩ => ⟨S1x1024, .f32⟩
  | .local _ .vmem, ⟨31, _⟩ => ⟨S20480, .f32⟩
  | .local _ .smem, ⟨0, _⟩ => ⟨S1, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg16_0 : Ref sig .tc := ⟨.vmem, 27, rfl⟩
abbrev cc1_stg16_1 : Ref sig .tc := ⟨.vmem, 28, rfl⟩
abbrev cc1_stg17_0 : Ref sig .tc := ⟨.vmem, 29, rfl⟩
abbrev cc1_scratch0 : Ref sig .tc := ⟨.vmem, 30, rfl⟩
abbrev cc1_scratch1 : Ref sig .tc := ⟨.vmem, 31, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem16_1 : DmaSem sig := 29
abbrev cc1_sem17_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1048576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1048576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond1 (i : grid1.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_2 : BitVec 32 := 0#32
  let v4 : BitVec 1 := Scalar.cmpi .ne v3 c0_i32_2
  v4

@[reducible] def k1_t1_loop : Scf.Loop 32 :=
  let c0_i32_18 : BitVec 32 := 0#32
  let c64_i32 : BitVec 32 := 64#32
  let v40 : BitVec 32 := Scalar.addi c0_i32_18 c64_i32
  let c1_i32 : BitVec 32 := 1#32
  ⟨c0_i32_18, v40, c1_i32⟩
def k1_off1 (i : grid1.Coords) : Fin 1 → Nat :=
  let arg0 : BitVec 32 := BitVec.ofNat 32 (i 0).val
  let c1024_i32 : BitVec 32 := 1024#32
  let v5 : BitVec 32 := Scalar.muli arg0 c1024_i32
  let v6 : Index := Scalar.indexCast v5
  ![v6.toNat]
def k1_cond3 (i : grid1.Coords) : BitVec 1 :=
  let arg0 : BitVec 32 := BitVec.ofNat 32 (i 0).val
  let c19_i32_4 : BitVec 32 := 19#32
  let v12 : BitVec 1 := Scalar.cmpi .slt arg0 c19_i32_4
  let v13 : BitVec 32 := Scalar.extui v12
  let c0_i32_5 : BitVec 32 := 0#32
  let v14 : BitVec 1 := Scalar.cmpi .ne v13 c0_i32_5
  v14

def k1_cond4 (i : grid1.Coords) : BitVec 1 :=
  let arg0 : BitVec 32 := BitVec.ofNat 32 (i 0).val
  let c19_i32_6 : BitVec 32 := 19#32
  let v15 : BitVec 1 := Scalar.cmpi .eq arg0 c19_i32_6
  let v16 : BitVec 32 := Scalar.extui v15
  let c0_i32_7 : BitVec 32 := 0#32
  let v17 : BitVec 1 := Scalar.cmpi .ne v16 c0_i32_7
  v17

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20480 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S20480 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1025 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3072x1025 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3072x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3072 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3072 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S512x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S512x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S1024x1x1024 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 1 → Memref sig .tc .vmem S1x512 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]
-- ==== ReferenceIdeal.lean ====
abbrev S512 : Shape := ⟨1, ![512]⟩
abbrev S_ : Shape := ⟨0, ![]⟩
abbrev S10240000 : Shape := ⟨1, ![10240000]⟩
abbrev S20000x1x1024 : Shape := ⟨3, ![20000, 1, 1024]⟩
abbrev S20000 : Shape := ⟨1, ![20000]⟩
abbrev S1 : Shape := ⟨1, ![1]⟩
abbrev S3072x1025 : Shape := ⟨2, ![3072, 1025]⟩
abbrev S3072x1024 : Shape := ⟨2, ![3072, 1024]⟩
abbrev S3072 : Shape := ⟨1, ![3072]⟩
abbrev S512x2561 : Shape := ⟨2, ![512, 2561]⟩
abbrev S1x1x1024 : Shape := ⟨3, ![1, 1, 1024]⟩
abbrev S1x1024 : Shape := ⟨2, ![1, 1024]⟩
abbrev S1024 : Shape := ⟨1, ![1024]⟩
abbrev S1025 : Shape := ⟨1, ![1025]⟩
abbrev S10240512 : Shape := ⟨1, ![10240512]⟩
abbrev S20001x1x1024 : Shape := ⟨3, ![20001, 1, 1024]⟩
abbrev S20001 : Shape := ⟨1, ![20001]⟩
abbrev S20000x512 : Shape := ⟨2, ![20000, 512]⟩

abbrev nBuf : Space → Nat
  | .hbm => 62
  | .vmem => 0
  | .smem => 0
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S_, .i32⟩
  | .hbm, ⟨3, _⟩ => ⟨S10240000, .f32⟩
  | .hbm, ⟨4, _⟩ => ⟨S20000x1x1024, .f32⟩
  | .hbm, ⟨5, _⟩ => ⟨S20000, .f32⟩
  | .hbm, ⟨6, _⟩ => ⟨S1, .f32⟩
  | .hbm, ⟨7, _⟩ => ⟨S3072x1025, .f32⟩
  | .hbm, ⟨8, _⟩ => ⟨S3072x1024, .f32⟩
  | .hbm, ⟨9, _⟩ => ⟨S3072, .f32⟩
  | .hbm, ⟨10, _⟩ => ⟨S3072, .f32⟩
  | .hbm, ⟨11, _⟩ => ⟨S512x2561, .f32⟩
  | .hbm, ⟨12, _⟩ => ⟨S512, .f32⟩
  | .hbm, ⟨13, _⟩ => ⟨S_, .f32⟩
  | .hbm, ⟨14, _⟩ => ⟨S1x1x1024, .f32⟩
  | .hbm, ⟨15, _⟩ => ⟨S1x1024, .f32⟩
  | .hbm, ⟨16, _⟩ => ⟨S1024, .f32⟩
  | .hbm, ⟨17, _⟩ => ⟨S1025, .f32⟩
  | .hbm, ⟨18, _⟩ => ⟨S3072, .f32⟩
  | .hbm, ⟨19, _⟩ => ⟨S3072, .f32⟩
  | .hbm, ⟨20, _⟩ => ⟨S3072, .f32⟩
  | .hbm, ⟨21, _⟩ => ⟨S3072, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S10240512, .f32⟩
  | .hbm, ⟨56, _⟩ => ⟨S1x1x1024, .f32⟩
  | .hbm, ⟨57, _⟩ => ⟨S20001x1x1024, .f32⟩
  | .hbm, ⟨58, _⟩ => ⟨S1, .f32⟩
  | .hbm, ⟨59, _⟩ => ⟨S20001, .f32⟩
  | .hbm, ⟨60, _⟩ => ⟨S20000x512, .f32⟩
  | .hbm, ⟨61, _⟩ => ⟨S20000, .f32⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Ideal.Body0.lean ====
module

public import proofs.«01_k».proof.Proof.Gen.KernelIdeal.Regions
public import proofs.«01_k».proof.Proof.Gen.KernelIdeal.Points
public import proofs.«01_k».proof.Proof.Gen.KernelIdeal.Loops
public import Idealize.ShloMosaic.Lib.Pipeline.KitQuiescent
public import Idealize.ShloMosaic.Lib.Tactic
public import Idealize.ShloMosaic.Lib.VecWindow

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref owned at `X` is its buffer held at contents that read `X`. -/
theorem owns_open (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ pt c M f) := by
  unfold owns; rw [h.set_eq_univ]

/-- Its buffer held at contents that read `X` is the memref owned at `X`. -/
theorem owns_close (c : Dev nD) {sp : Space} {S : Shape} {e : EltTy} (M : Memref sig .tc sp S e) (h : M.IsWhole) {X : S.Idx → Elt F e} {f : Bf (F := F) c M}
    (hf : M.view.read (Elt F) f = X) : pt c M f ⊢ (owns (c : Thread nD τ) M fullShare X : sProp 𝕄) := by
  unfold owns; rw [h.set_eq_univ]
  iintro H
  iexists f; isplitr
  · ipureintro; exact hf
  iexact H

/-- The test of region 0's tail store: the last point of its grid. -/
def tail0 (i : grid0.Coords) : Prop := Scalar.cmpi .ne (Scalar.extui (Scalar.cmpi .eq (BitVec.ofNat 32 (i 0).val) 9#32) : BitVec 32) 0#32 = 1#1
instance (i : grid0.Coords) : Decidable (tail0 i) := inferInstanceAs (Decidable (_ = _))

/-- What region 0's body leaves in the block of the new features: the block it read, with the feature over 512 elements of it at the last point. -/
def fsBlk (i : grid0.Coords) (X1 : S1048576.Idx → Elt F .f32) (X2 : S512.Idx → Elt F .f32) : S1048576.Idx → Elt F .f32 :=
  if tail0 i then VecWindow.put X1 ![802816] S512.size X2 else X1

/-- Region 0's body: from its six blocks at any contents it leaves the new features, the scores and the times of the rows it read. -/
theorem body0 (c : Dev nD) (i : grid0.Coords)
    (M1 : Memref sig .tc .vmem S1048576 .f32) (h1 : M1.IsWhole) (M2 : Memref sig .tc .vmem S512 .f32) (h2 : M2.IsWhole) (M3 : Memref sig .tc .vmem S2048 .f32) (h3 : M3.IsWhole)
    (M4 : Memref sig .tc .vmem S1048576 .f32) (h4 : M4.IsWhole) (M5 : Memref sig .tc .vmem S2048 .f32) (h5 : M5.IsWhole) (M6 : Memref sig .tc .vmem S2048 .f32) (h6 : M6.IsWhole)
    (X1 : S1048576.Idx → Elt F .f32) (X2 : S512.Idx → Elt F .f32) (X3 : S2048.Idx → Elt F .f32) (X4 : S1048576.Idx → Elt F .f32) (X5 X6 : S2048.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ (iprop(owns (c : Thread nD τ) M1 fullShare X1 ∗ owns (c : Thread nD τ) M2 fullShare X2 ∗ owns (c : Thread nD τ) M3 fullShare X3
            ∗ owns (c : Thread nD τ) M4 fullShare (fsBlk i X1 X2) ∗ owns (c : Thread nD τ) M5 fullShare (k0_pay2 i X1 X2)
            ∗ owns (c : Thread nD τ) M6 fullShare (k0_pay3 i X3)) -∗ Q ⟨⟩))
      ⊢ wp Idealize.ShloMosaic.frame (wpE (defs₀ (F := F)) Variants.none c none) E (cc0__k1_body i M1 h1 M2 h2 M3 h3 M4 h4 M5 h5 M6 h6) Q := by
  iintro ⟨H1, H2, H3, H4, H5, H6, Hk⟩
  icases owns_open c M1 h1 X1 $$ H1 with ⟨%f1, %e1, H1⟩
  icases owns_open c M2 h2 X2 $$ H2 with ⟨%f2, %e2, H2⟩
  icases owns_open c M3 h3 X3 $$ H3 with ⟨%f3, %e3, H3⟩
  icases owns_open c M4 h4 X4 $$ H4 with ⟨%f4, -, H4⟩
  icases owns_open c M5 h5 X5 $$ H5 with ⟨%f5, -, H5⟩
  icases owns_open c M6 h6 X6 $$ H6 with ⟨%f6, -, H6⟩
  sl_unfold [cc0__k1_body]
  by_cases hi : tail0 i
  · rw [show fsBlk i X1 X2 = VecWindow.put X1 ![802816] S512.size X2 from if_pos hi]
    unfold tail0 at hi
    sl_exec (disch := sl_exact hi)
    sl_step
    iapply Hk
    isplitl [H1]; · iapply owns_close c M1 h1 e1 $$ H1
    isplitl [H2]; · iapply owns_close c M2 h2 e2 $$ H2
    isplitl [H3]; · iapply owns_close c M3 h3 e3 $$ H3
    isplitl [H4]
    · iapply owns_close c M4 h4 $$ H4
      rw [View.read_writes_cons_put _ _ _ _ _ rfl, View.read_writes_full, View.readAt_full, View.readAt_full, e1, e2]
    isplitl [H5]
    · iapply owns_close c M5 h5 $$ H5
      rw [View.read_writes_full, View.readAt_full, View.readAt_full, e1, e2]
    iapply owns_close c M6 h6 $$ H6
    rw [View.read_writes_full, View.readAt_full, e3]
  · rw [show fsBlk i X1 X2 = X1 from if_neg hi]
    unfold tail0 at hi
    sl_exec (disch := sl_exact hi)
    sl_step
    iapply Hk
    isplitl [H1]; · iapply owns_close c M1 h1 e1 $$ H1
    isplitl [H2]; · iapply owns_close c M2 h2 e2 $$ H2
    isplitl [H3]; · iapply owns_close c M3 h3 e3 $$ H3
    isplitl [H4]
    · iapply owns_close c M4 h4 $$ H4
      rw [View.read_writes_full, View.readAt_full, e1]
    isplitl [H5]
    · iapply owns_close c M5 h5 $$ H5
      rw [View.read_writes_full, View.readAt_full, View.readAt_full, e1, e2]
    iapply owns_close c M6 h6 $$ H6
    rw [View.read_writes_full, View.readAt_full, e3]

end Cert.KernelIdeal.Value

end
-- ==== Proof.Ideal.Body1.lean ====
module

public import proofs.«01_k».proof.Proof.Ideal.Body0
public import proofs.«01_k».proof.Proof.Gen.KernelIdeal.Points
public import proofs.«01_k».proof.Proof.Gen.KernelIdeal.Loops
public import Idealize.ShloMosaic.Lib.Pipeline.KitQuiescent
public import Idealize.ShloMosaic.Lib.Tactic
public import Idealize.ShloMosaic.Lib.VecWindow

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- The threshold search of region 1: from the scores' least and greatest, a fixed number of halvings. -/
def bis (a : S20480.Idx → Elt F .f32) : F .f32 × F .f32 :=
  Scf.fold (fun (_ : Fin k1_t1_loop.trips) p => (k1_pay12 a p.1 p.2, k1_pay13 a p.1 p.2)) (k1_pay10 a, k1_pay9 a)

/-- The attention weights of every row: the masked softmax of the decayed scores at or above the threshold. -/
def wts (t : S1.Idx → Elt F .f32) (a ts : S20480.Idx → Elt F .f32) : S20480.Idx → Elt F .f32 :=
  k1_pay2 (k1_pay14 a (bis a).1) (k1_pay15 a (t (Shape.Idx.first (by decide))) ts) (k1_pay16 a (t (Shape.Idx.first (by decide))) (bis a).1 ts)

/-- The weights of the rows of block `i`. -/
def wWin (i : grid1.Coords) (w : S20480.Idx → Elt F .f32) : S1024.Idx → Elt F .f32 := VecWindow.window w (k1_off1 i) S1024.size (k1_off1_inb i)

/-- The attended sum with the rows of the last block added, those beyond the array's end at zero. -/
def accLast (i : grid1.Coords) (X : S1024x1x1024.Idx → Elt F .f32) (w : S20480.Idx → Elt F .f32) (acc : S1x1024.Idx → Elt F .f32) : S1x1024.Idx → Elt F .f32 :=
  k1_pay18 (k1_pay1 X) (k1_pay3 (wWin i w)) acc

/-- The last block of the new states: the rows it read, with the recurrent unit's new state in the row appended. -/
def hsLast (X : S1024x1x1024.Idx → Elt F .f32) (X7 : S1025.Idx → Elt F .f32) (X8 : S3072x1025.Idx → Elt F .f32) (X9 : S3072x1024.Idx → Elt F .f32) (X10 X11 : S3072.Idx → Elt F .f32) : S1024x1x1024.Idx → Elt F .f32 :=
  k1_pay25 (k1_pay1 X) k1_pay17 (k1_pay19 (k1_pay1 X)) (k1_pay22 (k1_pay1 X) X7 X8 X9 X10 X11) (k1_pay23 (k1_pay1 X) X7 X8 X9 X10 X11) k1_pay24

/-- The output: the log-softmax of the scaled linear read-out of the feature, the attended sum and the last state. -/
def outLast (X : S1024x1x1024.Idx → Elt F .f32) (acc : S1x1024.Idx → Elt F .f32) (X5 X6 : S512.Idx → Elt F .f32) (X12 : S512x512.Idx → Elt F .f32) (X13 X14 : S512x1024.Idx → Elt F .f32) (X15 X16 : S512.Idx → Elt F .f32) : S1x512.Idx → Elt F .f32 :=
  k1_pay6 (k1_pay26 (k1_pay19 (k1_pay1 X)) acc X5 X12 X13 X14 X15 X16 X6) (k1_pay27 (k1_pay19 (k1_pay1 X)) acc X5 X12 X13 X14 X15 X16 X6)

/-- Region 1's body at the first point: the weights are made, the attended sum starts, the block is copied. -/
theorem body1_first (c : Dev nD) (i : grid1.Coords) (c1 : k1_cond1 i = 1#1) (c2 : Scalar.cmpi .ne (Scalar.extui (Scalar.cmpi .slt (BitVec.ofNat 32 (i 0).val) 19#32) : BitVec 32) 0#32 = 1#1) (c3 : k1_cond3 i = 1#1) (c4 : ¬ k1_cond4 i = 1#1)
    (M1 : Memref sig .tc .smem S1 .f32) (h1 : M1.IsWhole) (M2 : Memref sig .tc .vmem S1024x1x1024 .f32) (h2 : M2.IsWhole) (M3 : Memref sig .tc .vmem S20480 .f32) (h3 : M3.IsWhole) (M4 : Memref sig .tc .vmem S20480 .f32) (h4 : M4.IsWhole)
    (M5 : Memref sig .tc .vmem S512 .f32) (h5 : M5.IsWhole) (M6 : Memref sig .tc .vmem S512 .f32) (h6 : M6.IsWhole) (M7 : Memref sig .tc .vmem S1025 .f32) (h7 : M7.IsWhole) (M8 : Memref sig .tc .vmem S3072x1025 .f32) (h8 : M8.IsWhole)
    (M9 : Memref sig .tc .vmem S3072x1024 .f32) (h9 : M9.IsWhole) (M10 : Memref sig .tc .vmem S3072 .f32) (h10 : M10.IsWhole) (M11 : Memref sig .tc .vmem S3072 .f32) (h11 : M11.IsWhole) (M12 : Memref sig .tc .vmem S512x512 .f32) (h12 : M12.IsWhole)
    (M13 : Memref sig .tc .vmem S512x1024 .f32) (h13 : M13.IsWhole) (M14 : Memref sig .tc .vmem S512x1024 .f32) (h14 : M14.IsWhole) (M15 : Memref sig .tc .vmem S512 .f32) (h15 : M15.IsWhole) (M16 : Memref sig .tc .vmem S512 .f32) (h16 : M16.IsWhole)
    (M17 : Memref sig .tc .vmem S1024x1x1024 .f32) (h17 : M17.IsWhole) (M18 : Memref sig .tc .vmem S1x512 .f32) (h18 : M18.IsWhole) (M19 : Memref sig .tc .vmem S1x1024 .f32) (h19 : M19.IsWhole) (M20 : Memref sig .tc .vmem S20480 .f32) (h20 : M20.IsWhole)
    (X1 : S1.Idx → Elt F .f32) (X2 : S1024x1x1024.Idx → Elt F .f32) (X3 : S20480.Idx → Elt F .f32) (X4 : S20480.Idx → Elt F .f32) (X17 : S1024x1x1024.Idx → Elt F .f32) (X19 : S1x1024.Idx → Elt F .f32) (X20 : S20480.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M17 fullShare X17 ∗ owns (c : Thread nD τ) M19 fullShare X19 ∗ owns (c : Thread nD τ) M20 fullShare X20
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M17 fullShare (k1_pay5 X2) ∗ owns (c : Thread nD τ) M19 fullShare (k1_pay4 X2 (wWin i (wts X1 X3 X4)) k1_pay7) ∗ owns (c : Thread nD τ) M20 fullShare (wts X1 X3 X4)) -∗ Q ⟨⟩))
      ⊢ wp Idealize.ShloMosaic.frame (wpE (defs₀ (F := F)) Variants.none c none) E (cc1__k3_body i M1 h1 M2 h2 M3 h3 M4 h4 M5 h5 M6 h6 M7 h7 M8 h8 M9 h9 M10 h10 M11 h11 M12 h12 M13 h13 M14 h14 M15 h15 M16 h16 M17 h17 M18 h18 M19 h19 M20 h20) Q := by
  iintro ⟨H1, H2, H3, H4, H17, H19, H20, Hk⟩
  icases owns_open c M1 h1 X1 $$ H1 with ⟨%f1, %e1, H1⟩
  icases owns_open c M2 h2 X2 $$ H2 with ⟨%f2, %e2, H2⟩
  icases owns_open c M3 h3 X3 $$ H3 with ⟨%f3, %e3, H3⟩
  icases owns_open c M4 h4 X4 $$ H4 with ⟨%f4, %e4, H4⟩
  icases owns_open c M17 h17 X17 $$ H17 with ⟨%f17, %e17, H17⟩
  icases owns_open c M19 h19 X19 $$ H19 with ⟨%f19, %e19, H19⟩
  icases owns_open c M20 h20 X20 $$ H20 with ⟨%f20, %e20, H20⟩
  sl_unfold [cc1__k3_body]
  sl_exec (disch := first | sl_exact c1 | sl_exact c2 | sl_exact c3 | sl_exact c4)
  sl_step
  have r1 : M1.view.readAt (Elt F) (Rect.unit ![0] S1.size inb_S1_S1_0).toLoadRect f1 = X1 := (View.readAt_full ..).trans e1
  have r2 : M2.view.readAt (Elt F) (Rect.unit ![0, 0, 0] S1024x1x1024.size inb_S1024x1x1024_S1024x1x1024_0_0_0).toLoadRect f2 = X2 := (View.readAt_full ..).trans e2
  have r3 : M3.view.readAt (Elt F) (Rect.unit ![0] S20480.size inb_S20480_S20480_0).toLoadRect f3 = X3 := (View.readAt_full ..).trans e3
  have r4 : M4.view.readAt (Elt F) (Rect.unit ![0] S20480.size inb_S20480_S20480_0).toLoadRect f4 = X4 := (View.readAt_full ..).trans e4
  have hw : M20.view.read (Elt F) (M20.view.writes (Elt F) M20.view.junk (body1_first.sl.H20_1 M1 M3 M4 f1 f3 f4)) = wts X1 X3 X4 := by
    delta body1_first.sl.H20_1
    rw [View.read_writes_full]
    delta body1_first.sl.r body1_first.sl.r_1 body1_first.sl.r_2 body1_first.sl.r_3 body1_first.sl.r_4
    rw [r1, r3, r4]
    rfl
  iapply Hk
  isplitl [H1]; · iapply owns_close c M1 h1 e1 $$ H1
  isplitl [H2]; · iapply owns_close c M2 h2 e2 $$ H2
  isplitl [H3]; · iapply owns_close c M3 h3 e3 $$ H3
  isplitl [H4]; · iapply owns_close c M4 h4 e4 $$ H4
  isplitl [H17]
  · iapply owns_close c M17 h17 $$ H17
    rw [View.read_writes_full, r2]
  isplitl [H19]
  · iapply owns_close c M19 h19 $$ H19
    rw [View.read_writes_full, r2, View.readAt_unit _ _ _ rfl (k1_off1_inb i), hw]
    delta body1_first.sl.v18 body1_first.sl.H19_1
    rw [View.readCov_full]
    rfl
  iapply owns_close c M20 h20 $$ H20
  exact hw

/-- Region 1's body at a middle point: the block's rows join the attended sum, the block is copied. -/
theorem body1_mid (c : Dev nD) (i : grid1.Coords) (c1 : ¬ k1_cond1 i = 1#1) (c2 : Scalar.cmpi .ne (Scalar.extui (Scalar.cmpi .slt (BitVec.ofNat 32 (i 0).val) 19#32) : BitVec 32) 0#32 = 1#1) (c3 : k1_cond3 i = 1#1) (c4 : ¬ k1_cond4 i = 1#1)
    (M1 : Memref sig .tc .smem S1 .f32) (h1 : M1.IsWhole) (M2 : Memref sig .tc .vmem S1024x1x1024 .f32) (h2 : M2.IsWhole) (M3 : Memref sig .tc .vmem S20480 .f32) (h3 : M3.IsWhole) (M4 : Memref sig .tc .vmem S20480 .f32) (h4 : M4.IsWhole)
    (M5 : Memref sig .tc .vmem S512 .f32) (h5 : M5.IsWhole) (M6 : Memref sig .tc .vmem S512 .f32) (h6 : M6.IsWhole) (M7 : Memref sig .tc .vmem S1025 .f32) (h7 : M7.IsWhole) (M8 : Memref sig .tc .vmem S3072x1025 .f32) (h8 : M8.IsWhole)
    (M9 : Memref sig .tc .vmem S3072x1024 .f32) (h9 : M9.IsWhole) (M10 : Memref sig .tc .vmem S3072 .f32) (h10 : M10.IsWhole) (M11 : Memref sig .tc .vmem S3072 .f32) (h11 : M11.IsWhole) (M12 : Memref sig .tc .vmem S512x512 .f32) (h12 : M12.IsWhole)
    (M13 : Memref sig .tc .vmem S512x1024 .f32) (h13 : M13.IsWhole) (M14 : Memref sig .tc .vmem S512x1024 .f32) (h14 : M14.IsWhole) (M15 : Memref sig .tc .vmem S512 .f32) (h15 : M15.IsWhole) (M16 : Memref sig .tc .vmem S512 .f32) (h16 : M16.IsWhole)
    (M17 : Memref sig .tc .vmem S1024x1x1024 .f32) (h17 : M17.IsWhole) (M18 : Memref sig .tc .vmem S1x512 .f32) (h18 : M18.IsWhole) (M19 : Memref sig .tc .vmem S1x1024 .f32) (h19 : M19.IsWhole) (M20 : Memref sig .tc .vmem S20480 .f32) (h20 : M20.IsWhole)
    (X2 : S1024x1x1024.Idx → Elt F .f32) (X17 : S1024x1x1024.Idx → Elt F .f32) (X19 : S1x1024.Idx → Elt F .f32) (X20 : S20480.Idx → Elt F .f32)
    (E : Set ℕ) (Q : PUnit → sProp 𝕄) :
    iprop(owns (c : Thread nD τ) M2 fullShare X2 ∗ owns (c : Thread nD τ) M17 fullShare X17 ∗ owns (c : Thread nD τ) M19 fullShare X19 ∗ owns (c : Thread nD τ) M20 fullShare X20
        ∗ (iprop(owns (c : Thread nD τ) M2 fullShare X2 ∗ owns (c : Thread nD τ) M17 fullShare (k1_pay5 X2) ∗ owns (c : Thread nD τ) M19 fullShare (k1_pay4 X2 (wWin i X20) X19) ∗ owns (c : Thread nD τ) M20 fullShare X20) -∗ Q ⟨⟩))
      ⊢ wp Idealize.ShloMosaic.frame (wpE (defs₀ (F := F)) Variants.none c none) E (cc1__k3_body i M1 h1 M2 h2 M3 h3 M4 h4 M5 h5 M6 h6 M7 h7 M8 h8 M9 h9 M10 h10 M11 h11 M12 h12 M13 h13 M14 h14 M15 h15 M16 h16 M17 h17 M18 h18 M19 h19 M20 h20) Q := by
  iintro ⟨H2, H17, H19, H20, Hk⟩
  icases owns_open c M2 h2 X2 $$ H2 with ⟨%f2, %e2, H2⟩
  icases owns_open c M17 h17 X17 $$ H17 with ⟨%f17, %e17, H17⟩
  icases owns_open c M19 h19 X19 $$ H19 with ⟨%f19, %e19, H19⟩
  icases owns_open c M20 h20 X20 $$ H20 with ⟨%f20, %e20, H20⟩
  sl_unfold [cc1__k3_body]
  sl_exec (disch := first | sl_exact c1 | sl_exact c2 | sl_exact c3 | sl_exact c4)
  sl_step
  have r2 : M2.view.readAt (Elt F) (Rect.unit ![0, 0, 0] S1024x1x1024.size inb_S1024x1x1024_S1024x1x1024_0_0_0).toLoadRect f2 = X2 := (View.readAt_full ..).trans e2
  have r19 : M19.view.readAt (Elt F) (Rect.unit ![0, 0] S1x1024.size inb_S1x1024_S1x1024_0_0).toLoadRect f19 = X19 := (View.readAt_full ..).trans e19
  iapply Hk
  isplitl [H2]; · iapply owns_close c M2 h2 e2 $$ H2
  isplitl [H17]
  · iapply owns_close c M17 h17 $$ H17
    rw [View.read_writes_full, r2]
  isplitl [H19]
  · iapply owns_close c M19 h19 $$ H19
    rw [View.read_writes_full, r2, r19, View.readAt_unit _ _ _ rfl (k1_off1_inb i), e20]
    rfl
  iapply owns_close c M20 h20 e20 $$ H20

/-- Region 1's body at the last point: the last rows join the attended sum, the new state is appended, the output made. -/
theorem body1_last (c : Dev nD) (i : grid1.Coords) (c1 : ¬ k1_cond1 i = 1#1) (c2 : ¬ Scalar.cmpi .ne (Scalar.extui (Scalar.cmpi .slt (BitVec.ofNat 32 (i 0).val) 19#32) : BitVec 32) 0#32 = 1#1) (c3 : ¬ k1_cond3 i = 1#1) (c4 : k1_cond4 i = 1#1)
    (M1 : Memref sig .tc .smem S1 .f32) (h1 : M1.IsWhole) (M2 : Memref sig .tc .vmem S1024x1x1024 .f32) (h2 : M2.IsWhole) (M3 : Memref sig .tc .vmem S20480 .f32) (h3 : M3.IsWhole) (M4 : Memref sig .tc .vmem S20480 .f32) (h4 : M4.IsWhole)
    (M5 : Memref sig .tc .vmem S512 .f32) (h5 : M5.IsWhole) (M6 : Memref sig .tc .vmem S512 .f32) (h6 : M6.IsWhole) (M7 : Memref sig .tc .vmem S1025 .f32) (h7 : M7.IsWhole) (M8 : Memref sig .tc .vmem S3072x1025 .f32) (h8 : M8.IsWhole)
    (M9 : Memref sig .tc .vmem S3072x1024 .f32) (h9 : M9.IsWhole) (M10 : Memref sig .tc .vmem S3072 .f32) (h10 : M10.IsWhole) (M11 : Memref sig .tc .vmem S3072 .f32) (h11 : M11.IsWhole) (M12 : Memref sig .tc .vmem S512x512 .f32) (h12 : M12.IsWhole)
    (M13 : Memref sig .tc .vmem S512x1024 .f32) (h13 : M13.IsWhole) (M14 : Memref sig .tc .vmem S512x1024 .f32) (h14 : M14.IsWhole) (M15 : Memref sig .tc .vmem S512 .f32) (h15 : M15.IsWhole) (M16 : Memref sig .tc .vmem S512 .f32) (h16 : M16.IsWhole)
    (M17 : Memref sig .tc .vmem S1024x1x1024 .f32) (h17 : M17.IsWhole) (M18 : Memref sig .tc .vmem S1x512 .f32) (h18 : M18.IsWhole) (M19 : Memref sig .tc .vmem S1x1024 .f32) (h19 : M19.IsWhole) (M20 : Memref sig .tc .vmem S20480 .f32) (h20 : M20.IsWhole)
    (X2 : S1024x1x1024.Idx → Elt F .f32) (X5 : S512.Idx → Elt F .f32) (X6 : S512.Idx → Elt F .f32) (X7 : S1025.Idx → Elt F .f32) (X8 : S3072x1025.Idx → Elt F .f32) (X9 : S3072x1024.Idx → Elt F .f32) (X10 : S3072.Idx → Elt F .f32) (X11 : S3072.Idx → Elt F .f32) (X12 : S512x512.Idx → Elt F .f32) (X13 : S512x1024.Idx → Elt F .f32) (X14 : S512x1024.Idx → Elt F .f32) (X15 : S512.Idx → Elt F .f32) (X16 : S512.Idx → Elt F .f32) (X17 : S1024x1x1024.Idx → Elt F .f32) (X18 : S1x512.Idx → Elt F .f32) (X19 : S1x1024.Idx → Elt F .f32) (X20 : S20480.Idx → Elt F .f32)
    (E : Set ℕ) (Q : PUnit → sProp 𝕄) :
    iprop(owns (c : Thread nD τ) M2 fullShare X2 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare X17 ∗ owns (c : Thread nD τ) M18 fullShare X18 ∗ owns (c : Thread nD τ) M19 fullShare X19 ∗ owns (c : Thread nD τ) M20 fullShare X20
        ∗ (iprop(owns (c : Thread nD τ) M2 fullShare X2 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare (hsLast X2 X7 X8 X9 X10 X11) ∗ owns (c : Thread nD τ) M18 fullShare (outLast X2 (accLast i X2 X20 X19) X5 X6 X12 X13 X14 X15 X16) ∗ owns (c : Thread nD τ) M19 fullShare (accLast i X2 X20 X19) ∗ owns (c : Thread nD τ) M20 fullShare X20) -∗ Q ⟨⟩))
      ⊢ wp Idealize.ShloMosaic.frame (wpE (defs₀ (F := F)) Variants.none c none) E (cc1__k3_body i M1 h1 M2 h2 M3 h3 M4 h4 M5 h5 M6 h6 M7 h7 M8 h8 M9 h9 M10 h10 M11 h11 M12 h12 M13 h13 M14 h14 M15 h15 M16 h16 M17 h17 M18 h18 M19 h19 M20 h20) Q := by
  iintro ⟨H2, H5, H6, H7, H8, H9, H10, H11, H12, H13, H14, H15, H16, H17, H18, H19, H20, Hk⟩
  icases owns_open c M2 h2 X2 $$ H2 with ⟨%f2, %e2, H2⟩
  icases owns_open c M5 h5 X5 $$ H5 with ⟨%f5, %e5, H5⟩
  icases owns_open c M6 h6 X6 $$ H6 with ⟨%f6, %e6, H6⟩
  icases owns_open c M7 h7 X7 $$ H7 with ⟨%f7, %e7, H7⟩
  icases owns_open c M8 h8 X8 $$ H8 with ⟨%f8, %e8, H8⟩
  icases owns_open c M9 h9 X9 $$ H9 with ⟨%f9, %e9, H9⟩
  icases owns_open c M10 h10 X10 $$ H10 with ⟨%f10, %e10, H10⟩
  icases owns_open c M11 h11 X11 $$ H11 with ⟨%f11, %e11, H11⟩
  icases owns_open c M12 h12 X12 $$ H12 with ⟨%f12, %e12, H12⟩
  icases owns_open c M13 h13 X13 $$ H13 with ⟨%f13, %e13, H13⟩
  icases owns_open c M14 h14 X14 $$ H14 with ⟨%f14, %e14, H14⟩
  icases owns_open c M15 h15 X15 $$ H15 with ⟨%f15, %e15, H15⟩
  icases owns_open c M16 h16 X16 $$ H16 with ⟨%f16, %e16, H16⟩
  icases owns_open c M17 h17 X17 $$ H17 with ⟨%f17, %e17, H17⟩
  icases owns_open c M18 h18 X18 $$ H18 with ⟨%f18, %e18, H18⟩
  icases owns_open c M19 h19 X19 $$ H19 with ⟨%f19, %e19, H19⟩
  icases owns_open c M20 h20 X20 $$ H20 with ⟨%f20, %e20, H20⟩
  sl_unfold [cc1__k3_body]
  sl_exec (disch := first | sl_exact c1 | sl_exact c2 | sl_exact c3 | sl_exact c4)
  sl_step
  have r2 : M2.view.readAt (Elt F) (Rect.unit ![0, 0, 0] S1024x1x1024.size inb_S1024x1x1024_S1024x1x1024_0_0_0).toLoadRect f2 = X2 := (View.readAt_full ..).trans e2
  have r5 : M5.view.readAt (Elt F) (Rect.unit ![0] S512.size inb_S512_S512_0).toLoadRect f5 = X5 := (View.readAt_full ..).trans e5
  have r6 : M6.view.readAt (Elt F) (Rect.unit ![0] S512.size inb_S512_S512_0).toLoadRect f6 = X6 := (View.readAt_full ..).trans e6
  have r7 : M7.view.readAt (Elt F) (Rect.unit ![0] S1025.size inb_S1025_S1025_0).toLoadRect f7 = X7 := (View.readAt_full ..).trans e7
  have r8 : M8.view.readAt (Elt F) (Rect.unit ![0, 0] S3072x1025.size inb_S3072x1025_S3072x1025_0_0).toLoadRect f8 = X8 := (View.readAt_full ..).trans e8
  have r9 : M9.view.readAt (Elt F) (Rect.unit ![0, 0] S3072x1024.size inb_S3072x1024_S3072x1024_0_0).toLoadRect f9 = X9 := (View.readAt_full ..).trans e9
  have r10 : M10.view.readAt (Elt F) (Rect.unit ![0] S3072.size inb_S3072_S3072_0).toLoadRect f10 = X10 := (View.readAt_full ..).trans e10
  have r11 : M11.view.readAt (Elt F) (Rect.unit ![0] S3072.size inb_S3072_S3072_0).toLoadRect f11 = X11 := (View.readAt_full ..).trans e11
  have r12 : M12.view.readAt (Elt F) (Rect.unit ![0, 0] S512x512.size inb_S512x512_S512x512_0_0).toLoadRect f12 = X12 := (View.readAt_full ..).trans e12
  have r13 : M13.view.readAt (Elt F) (Rect.unit ![0, 0] S512x1024.size inb_S512x1024_S512x1024_0_0).toLoadRect f13 = X13 := (View.readAt_full ..).trans e13
  have r14 : M14.view.readAt (Elt F) (Rect.unit ![0, 0] S512x1024.size inb_S512x1024_S512x1024_0_0).toLoadRect f14 = X14 := (View.readAt_full ..).trans e14
  have r15 : M15.view.readAt (Elt F) (Rect.unit ![0] S512.size inb_S512_S512_0).toLoadRect f15 = X15 := (View.readAt_full ..).trans e15
  have r16 : M16.view.readAt (Elt F) (Rect.unit ![0] S512.size inb_S512_S512_0).toLoadRect f16 = X16 := (View.readAt_full ..).trans e16
  have r19 : M19.view.readAt (Elt F) (Rect.unit ![0, 0] S1x1024.size inb_S1x1024_S1x1024_0_0).toLoadRect f19 = X19 := (View.readAt_full ..).trans e19
  iapply Hk
  isplitl [H2]; · iapply owns_close c M2 h2 e2 $$ H2
  isplitl [H5]; · iapply owns_close c M5 h5 e5 $$ H5
  isplitl [H6]; · iapply owns_close c M6 h6 e6 $$ H6
  isplitl [H7]; · iapply owns_close c M7 h7 e7 $$ H7
  isplitl [H8]; · iapply owns_close c M8 h8 e8 $$ H8
  isplitl [H9]; · iapply owns_close c M9 h9 e9 $$ H9
  isplitl [H10]; · iapply owns_close c M10 h10 e10 $$ H10
  isplitl [H11]; · iapply owns_close c M11 h11 e11 $$ H11
  isplitl [H12]; · iapply owns_close c M12 h12 e12 $$ H12
  isplitl [H13]; · iapply owns_close c M13 h13 e13 $$ H13
  isplitl [H14]; · iapply owns_close c M14 h14 e14 $$ H14
  isplitl [H15]; · iapply owns_close c M15 h15 e15 $$ H15
  isplitl [H16]; · iapply owns_close c M16 h16 e16 $$ H16
  isplitl [H17]
  · iapply owns_close c M17 h17 $$ H17
    rw [View.read_writes_full, r2]
    delta body1_last.sl.r body1_last.sl.r_1 body1_last.sl.r_2
    rw [r2, r7, r8, r9, r10, r11]
    rfl
  isplitl [H18]
  · iapply owns_close c M18 h18 $$ H18
    rw [View.read_writes_full]
    delta body1_last.sl.r_3 body1_last.sl.r_4
    delta body1_last.sl.r body1_last.sl.v74 body1_last.sl.H19_1
    rw [View.readCov_full, r2, r19, View.readAt_unit _ _ _ rfl (k1_off1_inb i), e20, r5, r6, r12, r13, r14, r15, r16]
    rfl
  isplitl [H19]
  · iapply owns_close c M19 h19 $$ H19
    delta body1_last.sl.H19_1
    rw [View.read_writes_full, r2, r19, View.readAt_unit _ _ _ rfl (k1_off1_inb i), e20]
    rfl
  iapply owns_close c M20 h20 e20 $$ H20

end Cert.KernelIdeal.Value

end
-- ==== Proof.Ideal.Pure0.lean ====
module

public import proofs.«01_k».proof.Proof.Ideal.Body1
public import Idealize.ShloMosaic.Lib.Pipeline.Value
public import Idealize.ShloMosaic.Lib.WordCmp
public import Idealize.ShloMosaic.Lib.ValueIdxCore

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
variable {U : Type} [URA U]

local notation "𝕄" => MT nD τ sig Unit (Elt F) ℕ U ℕ

/-- Point `t` of region 0's grid is its coordinate. -/
theorem coord0 : ∀ t : Fin grid0.N, (grid0.coords t 0).val = t.val := by decide +kernel
/-- The tail is stored at the last point. -/
theorem tail0_iff : ∀ t : Fin grid0.N, tail0 (grid0.coords t) ↔ t.val = 9 := by decide +kernel
/-- Row `j` of block `i` is a row of the arrays exactly where the body's mask holds. -/
theorem valid0 (i : grid0.Coords) (j : S2048.Idx) : k0_pay1 i j = 1#1 ↔ (i 0).val * 2048 + (j 0).val < 20000 := by
  have hi : (i 0).val < 10 := (i 0).isLt
  have hj : (j 0).val < 2048 := (j 0).isLt
  unfold k0_pay1
  simp only [cmpi, addi, broadcast, Scalar.muli]
  rw [shapeCast_apply _ shapeCasts_S1x2048_S2048 j (ix2 ⟨0, by decide⟩ ⟨(j 0).val, hj⟩ : S1x2048.Idx) (by
    rw [Shape.rowMajor_val_two, Shape.rowMajor_val_one]; show 0 * 2048 + (j 0).val = (j 0).val; omega), iota_single_apply]
  show IntOp.cmpi .slt (BitVec.ofNat 32 (i 0).val * 2048#32 + BitVec.ofNat 32 (j 0).val) 20000#32 = 1#1 ↔ _
  rw [show BitVec.ofNat 32 (i 0).val * 2048#32 + BitVec.ofNat 32 (j 0).val = BitVec.ofNat 32 ((i 0).val * 2048 + (j 0).val) by
    rw [BitVec.ofNat_add, BitVec.ofNat_mul]]
  exact WordCmp.cmpi_slt_ofNat_eq_one_iff (by omega) (by norm_num)

/-- How much of a block of region 0's features, times and new features lies inside its array. -/
theorem xsize0_0 : ∀ t : Fin grid0.N, win0_0.xsize (grid0.coords t) 0 = min 1048576 (10240000 - t.val * 1048576) := by decide +kernel
theorem xsize0_2 : ∀ t : Fin grid0.N, win0_2.xsize (grid0.coords t) 0 = min 2048 (20000 - t.val * 2048) := by decide +kernel
theorem xsize0_3 : ∀ t : Fin grid0.N, win0_3.xsize (grid0.coords t) 0 = min 1048576 (10240512 - t.val * 1048576) := by decide +kernel

theorem moved0_0 (t : Fin grid0.N) (j : S1048576.Idx) (h : t.val * 1048576 + (j 0).val < 10240000) : win0_0.moved (grid0.coords t) j = true :=
  (win0_0.moved_iff _ j).mpr fun a => match a with
    | ⟨0, _⟩ => by
      have h1 : (j 0).val < 1048576 := (j 0).isLt
      show (j 0).val < win0_0.xsize (grid0.coords t) 0
      rw [xsize0_0]; omega
theorem moved0_2 (t : Fin grid0.N) (j : S2048.Idx) (h : t.val * 2048 + (j 0).val < 20000) : win0_2.moved (grid0.coords t) j = true :=
  (win0_2.moved_iff _ j).mpr fun a => match a with
    | ⟨0, _⟩ => by
      have h1 : (j 0).val < 2048 := (j 0).isLt
      show (j 0).val < win0_2.xsize (grid0.coords t) 0
      rw [xsize0_2]; omega

/-- Where a block's element lies inside the array, filling the rest does not change it. -/
theorem fill_of_moved {G : Grid} (w : Window sig G) {α : Type} (i : G.Coords) (d d' : w.block.Idx → α) (g : (w.xblock i).Idx → α) (j : w.block.Idx)
    (h : w.moved i j = true) : w.fill i d g j = w.fill i d' g j := by
  unfold Window.fill; rw [dif_pos h, dif_pos h]

/-- The times' block, padded: nothing beyond the array's end is read. -/
theorem pay3_fill (t : Fin grid0.N) (d d' : S2048.Idx → Elt F .f32) (g : (win0_2.xblock (grid0.coords t)).Idx → Elt F .f32) :
    k0_pay3 (grid0.coords t) (win0_2.fill (grid0.coords t) d g) = k0_pay3 (grid0.coords t) (win0_2.fill (grid0.coords t) d' g) := by
  funext j
  unfold k0_pay3
  simp only [select]
  by_cases h : k0_pay1 (grid0.coords t) j = 1#1
  · have hv := (valid0 _ j).mp h
    rw [coord0] at hv
    rw [fill_of_moved win0_2 _ d d' g j (moved0_2 t j hv)]
  · rw [BitVec.eq_zero_or_eq_one (k0_pay1 (grid0.coords t) j) |>.resolve_right h]
    exact (ValueIdx.select_zero _ _).trans (ValueIdx.select_zero _ _).symm

/-- Up to the new features' end, what lies beyond the old features' end is not read: the feature is stored over it. -/
theorem fsBlk_fill_apply (t : Fin grid0.N) (d d' : S1048576.Idx → Elt F .f32) (g : (win0_0.xblock (grid0.coords t)).Idx → Elt F .f32) (X : S512.Idx → Elt F .f32)
    (z : S1048576.Idx) (hj : t.val * 1048576 + (z 0).val < 10240512) :
    fsBlk (grid0.coords t) (win0_0.fill (grid0.coords t) d g) X z = fsBlk (grid0.coords t) (win0_0.fill (grid0.coords t) d' g) X z := by
  have ht : t.val < 10 := lt_of_lt_of_eq t.isLt N_0
  have hz : (z 0).val < 1048576 := (z 0).isLt
  unfold fsBlk
  split
  · rename_i hi
    unfold VecWindow.put
    by_cases h9 : ∀ a, ![802816] a ≤ (z a).val ∧ (z a).val < ![802816] a + S512.size a
    · rw [dif_pos h9, dif_pos h9]
    · rw [dif_neg h9, dif_neg h9]
      refine fill_of_moved win0_0 _ d d' g z (moved0_0 t z ?_)
      have h10 := (tail0_iff t).mp hi
      by_contra hc
      apply h9
      intro a
      match a with
      | ⟨0, _⟩ =>
      show 802816 ≤ (z 0).val ∧ (z 0).val < 802816 + 512
      omega
  · rename_i hi
    refine fill_of_moved win0_0 _ d d' g z (moved0_0 t z ?_)
    have h10 := mt (tail0_iff t).mpr hi
    omega

/-- The new features' block inside the array. -/
theorem fsBlk_fill (t : Fin grid0.N) (d d' : S1048576.Idx → Elt F .f32) (g : (win0_0.xblock (grid0.coords t)).Idx → Elt F .f32) (X : S512.Idx → Elt F .f32) :
    win0_3.cut (grid0.coords t) (fsBlk (grid0.coords t) (win0_0.fill (grid0.coords t) d g) X)
      = win0_3.cut (grid0.coords t) (fsBlk (grid0.coords t) (win0_0.fill (grid0.coords t) d' g) X) := by
  funext j
  exact fsBlk_fill_apply t d d' g X (win0_3.xinj (grid0.coords t) j) (by
    have h0 := ((win0_3.moved_iff _ _).mp (win0_3.moved_xinj (grid0.coords t) j)) 0
    rw [xsize0_3] at h0
    have h1 := lt_min_iff.mp h0
    exact lt_of_lt_of_le (Nat.add_lt_add_left h1.2 _) (by omega))

end Cert.KernelIdeal.Value

end
-- ==== Proof.Ideal.Region0.lean ====
module

public import proofs.«01_k».proof.Proof.Ideal.Pure0
public import Idealize.ShloMosaic.Lib.Pipeline.FrameBody

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
variable {U : Type} [URA U]

local notation "𝕄" => MT nD τ sig Unit (Elt F) ℕ U ℕ

variable (V : Dev nD → Valuation τ sig (Elt F))

/-- The zero word, what fills a block beyond its array's end where the proof names one. -/
abbrev z32 : Elt F .f32 := Scalar.ofBits .f32 0#32

/-- The blocks region 0 reads at point `t`, padded with zero beyond the arrays' ends: of the features, the feature, of the times. -/
def fsIn (c : Dev nD) (t : Fin cfg0.N) : S1048576.Idx → Elt F .f32 :=
  win0_0.fill (grid0.coords t) (fun _ => z32) ((win0_0.blk t).view.read (Elt F) (V c main_arg3))
def ftIn (c : Dev nD) (t : Fin cfg0.N) : S512.Idx → Elt F .f32 := (win0_1.blk t).view.read (Elt F) (V c main_arg0)
def tsIn (c : Dev nD) (t : Fin cfg0.N) : S2048.Idx → Elt F .f32 :=
  win0_2.fill (grid0.coords t) (fun _ => z32) ((win0_2.blk t).view.read (Elt F) (V c main_arg5))

/-- The proof data of region 0 from the valuation `V`: the arrays at `V`, each block left at what the body computes of the blocks read. -/
def dat0 (c : Dev nD) : Dat τ (Elt F) Unit ℕ U ℕ cfg0 c where
  A w := V c (Pipeline.arrRef spec0 w)
  after w t := match w with
    | ⟨0, _⟩ => fsIn V c t
    | ⟨1, _⟩ => ftIn V c t
    | ⟨2, _⟩ => tsIn V c t
    | ⟨3, _⟩ => fsBlk (grid0.coords t) (fsIn V c t) (ftIn V c t)
    | ⟨4, _⟩ => k0_pay2 (grid0.coords t) (fsIn V c t) (ftIn V c t)
    | ⟨5, _⟩ => k0_pay3 (grid0.coords t) (tsIn V c t)
  Φ _ := Pipeline.scopedRest (Ix := Unit) (Name := ℕ) (U := U) (Lvl := ℕ) (Val := Elt F) spec0 c
  q _ := fullShare
  owed _ := 0

theorem before0_0 (c : Dev nD) (t : Fin cfg0.N) (d) : (dat0 (U := U) V c).before (0 : Fin 6) t d
    = win0_0.fill (grid0.coords t) d ((win0_0.blk t).view.read (Elt F) (V c main_arg3)) := by
  unfold Dat.before; rw [if_pos (fetch0_0 t)]; rfl
theorem before0_2 (c : Dev nD) (t : Fin cfg0.N) (d) : (dat0 (U := U) V c).before (2 : Fin 6) t d
    = win0_2.fill (grid0.coords t) d ((win0_2.blk t).view.read (Elt F) (V c main_arg5)) := by
  unfold Dat.before; rw [if_pos (fetch0_2 t)]; rfl
theorem before0_1 (c : Dev nD) (t : Fin cfg0.N) (d) : (dat0 (U := U) V c).before (1 : Fin 6) t d = ftIn V c t :=
  ((dat0 (U := U) V c).before_in_eq_fetched (1 : Fin 6) rfl (fun _ => rfl) (fun _ _ _ => rfl) (fun _ => rfl) t d).trans rfl

/-- The one fact of the floats region 0 needs: a score does not depend on what lies beyond the features' end. -/
def ScoreFill (F : FTy → Type) [FloatOps F] : Prop :=
  ∀ (t : Fin grid0.N) (d d' : S1048576.Idx → Elt F .f32) (g : (win0_0.xblock (grid0.coords t)).Idx → Elt F .f32) (X : S512.Idx → Elt F .f32),
    k0_pay2 (grid0.coords t) (win0_0.fill (grid0.coords t) d g) X = k0_pay2 (grid0.coords t) (win0_0.fill (grid0.coords t) d' g) X

/-- The library's body obligation for region 0. -/
theorem body_obligation0 (hsc : ScoreFill F) (c : Dev nD) : BodyObligationLoose (dat0 (U := U) V c) (defs₀ (F := F)) Variants.none () Set.univ := fun t => by
  rw [bigSep_W0, bigSep_W0]
  simp only
  rw [show (dat0 (U := U) V c).Φ t.succ = (dat0 (U := U) V c).Φ t.castSucc from rfl,
    show (dat0 (U := U) V c).owesAt () t.succ = (dat0 (U := U) V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0 V c t d0, before0_1 V c t d1, before0_2 V c t d2]
  iapply (body0 (F := F) c (grid0.coords t) (st0_0 t) (hstage0_0 _) (st0_1 t) (hstage0_1 _) (st0_2 t) (hstage0_2 _) (st0_3 t) (hstage0_3 _)
    (st0_4 t) (hstage0_4 _) (st0_5 t) (hstage0_5 _)
    (win0_0.fill (grid0.coords t) d0 ((win0_0.blk t).view.read (Elt F) (V c main_arg3))) (ftIn V c t)
    (win0_2.fill (grid0.coords t) d2 ((win0_2.blk t).view.read (Elt F) (V c main_arg5))) _ _ _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (fsIn V c t)))
    rw [show win0_0.cut (grid0.coords t) (fsIn V c t) = (win0_0.blk t).view.read (Elt F) (V c main_arg3) from win0_0.cut_fill _ _ _]
    try iexact H0
  isplitl [H1]; · iexact H1
  isplitl [H2]
  · iexists d2
    change _ ⊢ owns (c : Thread nD τ) (st0_2 t) fullShare (win0_2.fill (grid0.coords t) d2 (win0_2.cut (grid0.coords t) (tsIn V c t)))
    rw [show win0_2.cut (grid0.coords t) (tsIn V c t) = (win0_2.blk t).view.read (Elt F) (V c main_arg5) from win0_2.cut_fill _ _ _]
    try iexact H2
  isplitl [H3]
  · iexists (fsBlk (grid0.coords t) (win0_0.fill (grid0.coords t) d0 ((win0_0.blk t).view.read (Elt F) (V c main_arg3))) (ftIn V c t))
    exact Entails.of_eq (congrArg (fun X => owns (c : Thread nD τ) (stage0_3 (cfg0.slots t 3)) fullShare X)
      (win0_3.fill_congr_cut (grid0.coords t) (fsBlk_fill t d0 (fun _ => z32) _ (ftIn V c t))).symm)
  isplitl [H4]
  · exact Entails.of_eq (congrArg (fun X => owns (c : Thread nD τ) (stage0_4 (cfg0.slots t 4)) fullShare X) (hsc t d0 (fun _ => z32) _ (ftIn V c t)))
  · exact Entails.of_eq (congrArg (fun X => owns (c : Thread nD τ) (stage0_5 (cfg0.slots t 5)) fullShare X) (pay3_fill t d2 (fun _ => z32) _))

end Cert.KernelIdeal.Value

end
-- ==== Proof.Ideal.Pure1.lean ====
module

public import proofs.«01_k».proof.Proof.Ideal.Region0

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
variable {U : Type} [URA U]

local notation "𝕄" => MT nD τ sig Unit (Elt F) ℕ U ℕ

/-- Two blocks of state rows agree on their first `n` rows. -/
def AgreeTo (n : ℕ) (X Y : S1024x1x1024.Idx → Elt F .f32) : Prop := ∀ z : S1024x1x1024.Idx, (z 0).val < n → X z = Y z

/-- The block read as a matrix. -/
theorem pay1_apply (X : S1024x1x1024.Idx → Elt F .f32) (j : S1024x1024.Idx) : k1_pay1 X j = X (ix3 (j 0) ⟨0, by decide⟩ (j 1)) := by
  unfold k1_pay1
  exact shapeCast_apply _ _ j _ (by
    rw [Shape.rowMajor_val_three, Shape.rowMajor_val_two]
    show ((j 0).val * 1 + 0) * 1024 + (j 1).val = (j 0).val * 1024 + (j 1).val
    omega)

theorem pay17_apply (r : S1024x1.Idx) : k1_pay17 r = BitVec.ofNat 32 (19456 + (r 0).val) := by
  unfold k1_pay17
  simp only [addi, broadcast]
  rw [iota_single_apply, BitVec.ofNat_add]
  rfl

/-- A mask of the block's rows, spread over its lanes. -/
theorem rowMask (m : IVec S1024x1 1) (j : S1024x1024.Idx) :
    broadcastTo S1024x1024 (shapeCast S1024x1 m shapeCasts_S1024x1_S1024x1) broadcasts_S1024x1_S1024x1024 j = m (ix2 (j 0) ⟨0, by decide⟩) := by
  refine (broadcastTo_apply _ broadcasts_S1024x1_S1024x1024 j (ix2 (j 0) ⟨0, by decide⟩) (fun a => ?_)).trans (congrFun (shapeCast_self _ _) _)
  match a with
  | ⟨0, _⟩ => rfl
  | ⟨1, _⟩ => rfl

/-- The last block's rows beyond the array do not reach the attended sum. -/
theorem pay18_agree {X Y : S1024x1x1024.Idx → Elt F .f32} (h : AgreeTo 544 X Y) (w : S1x1024.Idx → Elt F .f32) (acc : S1x1024.Idx → Elt F .f32) :
    k1_pay18 (k1_pay1 X) w acc = k1_pay18 (k1_pay1 Y) w acc := by
  unfold k1_pay18
  dsimp only
  congr 3
  funext j
  have hj : (j 0).val < 1024 := (j 0).isLt
  have hc := rowMask (cmpi CmpIPredicate.slt k1_pay17 (broadcast S1024x1 20000#32)) j
  simp only [select]
  rw [hc, pay1_apply, pay1_apply]
  show Scalar.select (IntOp.cmpi .slt (k1_pay17 (ix2 (j 0) ⟨0, by decide⟩)) 20000#32) _ _ = Scalar.select (IntOp.cmpi .slt (k1_pay17 (ix2 (j 0) ⟨0, by decide⟩)) 20000#32) _ _
  rw [pay17_apply]
  by_cases hr : (j 0).val < 544
  · rw [h _ (by exact hr)]
  · have e : IntOp.cmpi .slt (BitVec.ofNat 32 (19456 + (j 0).val)) 20000#32 = 0#1 :=
      (WordCmp.cmpi_slt_ofNat_eq_zero_iff (by omega) (by norm_num)).mpr (by omega)
    change Scalar.select (IntOp.cmpi .slt (BitVec.ofNat 32 (19456 + (j 0).val)) 20000#32) _ _ = Scalar.select (IntOp.cmpi .slt (BitVec.ofNat 32 (19456 + (j 0).val)) 20000#32) _ _
    rw [e]; rfl

/-- Its last row of the array is row 543. -/
theorem pay19_agree {X Y : S1024x1x1024.Idx → Elt F .f32} (h : AgreeTo 544 X Y) : k1_pay19 (k1_pay1 X) = k1_pay19 (k1_pay1 Y) := by
  have e : ∀ Z : S1024x1x1024.Idx → Elt F .f32, extractStridedSlice S1x1024 ![543, 0] (k1_pay1 Z) slices_S1024x1024_o543_0_S1x1024
      = fun i => Z (ix3 ⟨543, by decide⟩ ⟨0, by decide⟩ (i 1)) := fun Z => funext fun i => by
    have h0 : (i 0).val < 1 := (i 0).isLt
    refine (extractStridedSlice_apply _ _ _ i (ix2 ⟨543, by decide⟩ (i 1)) (fun a => ?_)).trans (pay1_apply Z _)
    match a with
    | ⟨0, _⟩ => show 543 = 543 + (i 0).val; omega
    | ⟨1, _⟩ => show (i 1).val = 0 + (i 1).val; omega
  unfold k1_pay19
  rw [e X, e Y]
  exact congrArg (fun v => shapeCast S1024 v shapeCasts_S1x1024_S1024) (funext fun i => h _ (by show 543 < 544; omega))

theorem pay22_agree {X Y : S1024x1x1024.Idx → Elt F .f32} (h : AgreeTo 544 X Y) : k1_pay22 (k1_pay1 X) = k1_pay22 (k1_pay1 Y) := by
  funext v35 v37 v39 v41 v43
  unfold k1_pay22 k1_pay21
  rw [pay19_agree h]
theorem pay23_agree {X Y : S1024x1x1024.Idx → Elt F .f32} (h : AgreeTo 544 X Y) : k1_pay23 (k1_pay1 X) = k1_pay23 (k1_pay1 Y) := by
  funext v35 v37 v39 v41 v43
  unfold k1_pay23 k1_pay21
  rw [pay19_agree h]

/-- The new state of the recurrent unit, from the last state. -/
def hNew (h0 z c : S1024.Idx → Elt F .f32) : S1024.Idx → Elt F .f32 :=
  addf (mulf (subf k1_pay24 z) c) (mulf z h0)

/-- A row spread over the block's rows. -/
theorem rowSpread (v : S1024.Idx → Elt F .f32) (j : S1024x1024.Idx) :
    broadcastTo S1024x1024 (shapeCast S1x1024 (shapeCast S1x1024 v shapeCasts_S1024_S1x1024) shapeCasts_S1x1024_S1x1024) broadcasts_S1x1024_S1024x1024 j = v (ix1 (j 1)) := by
  refine (broadcastTo_apply _ broadcasts_S1x1024_S1024x1024 j (ix2 ⟨0, by decide⟩ (j 1)) (fun a => ?_)).trans
    ((congrFun (shapeCast_self _ _) _).trans (shapeCast_apply _ _ _ (ix1 (j 1)) ?_))
  · match a with
    | ⟨0, _⟩ => rfl
    | ⟨1, _⟩ => rfl
  · rw [Shape.rowMajor_val_two, Shape.rowMajor_val_one]
    show (j 1).val = 0 * 1024 + (j 1).val
    omega

/-- The last block of the new states, row by row: the new state in row 544, the rows read elsewhere. -/
theorem hsLast_apply (X : S1024x1x1024.Idx → Elt F .f32) (X7 : S1025.Idx → Elt F .f32) (X8 : S3072x1025.Idx → Elt F .f32) (X9 : S3072x1024.Idx → Elt F .f32) (X10 X11 : S3072.Idx → Elt F .f32)
    (z : S1024x1x1024.Idx) :
    hsLast X X7 X8 X9 X10 X11 z = if (z 0).val = 544 then
      hNew (k1_pay19 (k1_pay1 X)) (k1_pay22 (k1_pay1 X) X7 X8 X9 X10 X11) (k1_pay23 (k1_pay1 X) X7 X8 X9 X10 X11) (ix1 (z 2)) else X z := by
  have h0 : (z 0).val < 1024 := (z 0).isLt
  have h1 : (z 1).val < 1 := (z 1).isLt
  have h2 : (z 2).val < 1024 := (z 2).isLt
  unfold hsLast k1_pay25
  dsimp only
  rw [shapeCast_apply _ _ z (ix2 (z 0) (z 2) : S1024x1024.Idx) (by
    rw [Shape.rowMajor_val_three, Shape.rowMajor_val_two]
    show (z 0).val * 1024 + (z 2).val = ((z 0).val * 1 + (z 1).val) * 1024 + (z 2).val
    omega)]
  have hc := rowMask (cmpi CmpIPredicate.eq k1_pay17 (broadcast S1024x1 20000#32)) (ix2 (z 0) (z 2) : S1024x1024.Idx)
  simp only [select]
  rw [hc, pay1_apply]
  show Scalar.select (IntOp.cmpi .eq (k1_pay17 (ix2 (z 0) ⟨0, by decide⟩)) 20000#32) _ _ = _
  rw [pay17_apply]
  change Scalar.select (IntOp.cmpi .eq (BitVec.ofNat 32 (19456 + (z 0).val)) 20000#32) _ _ = _
  by_cases hz : (z 0).val = 544
  · have e : IntOp.cmpi .eq (BitVec.ofNat 32 (19456 + (z 0).val)) 20000#32 = 1#1 :=
      (WordCmp.cmpi_eq_ofNat_eq_one_iff (by omega) (by norm_num)).mpr (by omega)
    rw [e, if_pos hz]
    exact (ValueIdx.select_one _ _).trans (rowSpread _ (ix2 (z 0) (z 2)))
  · have e : IntOp.cmpi .eq (BitVec.ofNat 32 (19456 + (z 0).val)) 20000#32 = 0#1 :=
      (WordCmp.cmpi_eq_ofNat_eq_zero_iff (by omega) (by norm_num)).mpr (by omega)
    rw [e, if_neg hz]
    refine (ValueIdx.select_zero _ _).trans (congrArg X (funext fun a => Fin.ext ?_))
    match a with
    | ⟨0, _⟩ => rfl
    | ⟨1, _⟩ => show 0 = (z 1).val; omega
    | ⟨2, _⟩ => rfl

theorem hsLast_agree {X Y : S1024x1x1024.Idx → Elt F .f32} (h : AgreeTo 544 X Y) (X7 : S1025.Idx → Elt F .f32) (X8 : S3072x1025.Idx → Elt F .f32) (X9 : S3072x1024.Idx → Elt F .f32) (X10 X11 : S3072.Idx → Elt F .f32) :
    AgreeTo 545 (hsLast X X7 X8 X9 X10 X11) (hsLast Y X7 X8 X9 X10 X11) := by
  intro z hz
  rw [hsLast_apply, hsLast_apply, pay19_agree h, pay22_agree h, pay23_agree h]
  split
  · rfl
  · exact h z (by omega)

theorem outLast_agree {X Y : S1024x1x1024.Idx → Elt F .f32} (h : AgreeTo 544 X Y) : outLast X = outLast Y := by
  funext acc X5 X6 X12 X13 X14 X15 X16
  unfold outLast
  rw [pay19_agree h]
theorem accLast_agree {X Y : S1024x1x1024.Idx → Elt F .f32} (h : AgreeTo 544 X Y) (i : grid1.Coords) : accLast i X = accLast i Y := by
  funext w acc
  exact pay18_agree h _ _

end Cert.KernelIdeal.Value

end
-- ==== Proof.Ideal.Region1.lean ====
module

public import proofs.«01_k».proof.Proof.Ideal.Pure1

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
variable {U : Type} [URA U]

local notation "𝕄" => MT nD τ sig Unit (Elt F) ℕ U ℕ

/-- Point `t` of region 1's grid is its coordinate. -/
theorem coord1 : ∀ t : Fin grid1.N, (grid1.coords t 0).val = t.val := by decide +kernel

/-- How much of a block of the states read, of the states written, lies inside its array. -/
theorem xsize1_1 : ∀ (t : Fin grid1.N) (a : Fin 3), win1_1.xsize (grid1.coords t) a = ![min 1024 (20000 - t.val * 1024), 1, 1024] a := by decide +kernel
theorem xsize1_16 : ∀ (t : Fin grid1.N), win1_16.xsize (grid1.coords t) 0 = min 1024 (20001 - t.val * 1024) := by decide +kernel

/-- The points at which region 1's body starts, goes on, and ends. -/
theorem conds_first : ∀ t : Fin grid1.N, t.val = 0 → k1_cond1 (grid1.coords t) = 1#1 := by decide +kernel
theorem conds_later : ∀ t : Fin grid1.N, t.val ≠ 0 → ¬ k1_cond1 (grid1.coords t) = 1#1 := by decide +kernel
theorem conds_mid : ∀ t : Fin grid1.N, t.val ≠ 19 → (Scalar.cmpi .ne (Scalar.extui (Scalar.cmpi .slt (BitVec.ofNat 32 (grid1.coords t 0).val) 19#32) : BitVec 32) 0#32 = 1#1)
    ∧ k1_cond3 (grid1.coords t) = 1#1 ∧ ¬ k1_cond4 (grid1.coords t) = 1#1 := by decide +kernel
theorem conds_last : ∀ t : Fin grid1.N, t.val = 19 → (¬ Scalar.cmpi .ne (Scalar.extui (Scalar.cmpi .slt (BitVec.ofNat 32 (grid1.coords t 0).val) 19#32) : BitVec 32) 0#32 = 1#1)
    ∧ ¬ k1_cond3 (grid1.coords t) = 1#1 ∧ k1_cond4 (grid1.coords t) = 1#1 := by decide +kernel
theorem idle16 : ∀ t : Fin grid1.N, idle1 16 (grid1.coords t) = false := by decide +kernel
theorem idle17_mid : ∀ t : Fin grid1.N, t.val ≠ 19 → idle1 17 (grid1.coords t) = true := by decide +kernel
theorem idle17_last : ∀ t : Fin grid1.N, t.val = 19 → idle1 17 (grid1.coords t) = false := by decide +kernel

/-- A row of block `t` inside the states read is moved. -/
theorem moved1_1 (t : Fin grid1.N) (j : S1024x1x1024.Idx) (h : t.val * 1024 + (j 0).val < 20000) : win1_1.moved (grid1.coords t) j = true :=
  (win1_1.moved_iff _ j).mpr fun a => by
    rw [xsize1_1]
    match a with
    | ⟨0, _⟩ =>
      have h1 : (j 0).val < 1024 := (j 0).isLt
      show (j 0).val < min 1024 (20000 - t.val * 1024)
      omega
    | ⟨1, _⟩ => exact (j 1).isLt
    | ⟨2, _⟩ => exact (j 2).isLt

/-- The rows of a block of the states inside the array do not depend on what lies beyond it. -/
theorem fill1_agree (t : Fin grid1.N) (d d' : S1024x1x1024.Idx → Elt F .f32) (g : (win1_1.xblock (grid1.coords t)).Idx → Elt F .f32) (n : ℕ) (hn : t.val * 1024 + n ≤ 20000) :
    AgreeTo n (win1_1.fill (grid1.coords t) d g) (win1_1.fill (grid1.coords t) d' g) := fun z hz =>
  fill_of_moved win1_1 _ d d' g z (moved1_1 t z (by omega))
theorem fill1_eq (t : Fin grid1.N) (ht : t.val ≠ 19) (d d' : S1024x1x1024.Idx → Elt F .f32) (g : (win1_1.xblock (grid1.coords t)).Idx → Elt F .f32) :
    win1_1.fill (grid1.coords t) d g = win1_1.fill (grid1.coords t) d' g := by
  have h20 : t.val < 20 := lt_of_lt_of_eq t.isLt N_1
  funext z
  exact fill1_agree t d d' g 1024 (by omega) z (z 0).isLt

/-- Blocks of new states agreeing on the rows inside the array are written back alike. -/
theorem cut1_agree (t : Fin grid1.N) (ht : t.val = 19) {X Y : S1024x1x1024.Idx → Elt F .f32} (h : AgreeTo 545 X Y) :
    win1_16.cut (grid1.coords t) X = win1_16.cut (grid1.coords t) Y := by
  funext j
  refine h (win1_16.xinj (grid1.coords t) j) ?_
  have h0 := ((win1_16.moved_iff _ _).mp (win1_16.moved_xinj (grid1.coords t) j)) 0
  rw [xsize1_16] at h0
  exact lt_of_lt_of_le (lt_min_iff.mp h0).2 (by omega)

/-- What of the core's own memory region 1 does not use: region 0's staging buffers. -/
def stg1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- Region 1's own memory, its two scratch buffers named. -/
theorem scoped1_split (c : Dev nD) :
    (Pipeline.scopedRest (Ix := Unit) (Name := ℕ) (U := U) (Lvl := ℕ) (Val := Elt F) spec1 c : sProp 𝕄)
      ⊢ iprop(stg1 c ∗ (∃ X, owns (c : Thread nD τ) (Memref.whole cc1_scratch0) fullShare X) ∗ (∃ X, owns (c : Thread nD τ) (Memref.whole cc1_scratch1) fullShare X)) := by
  rw [scopedRest1_eq]
  unfold stg1
  iintro ⟨A0, A1, A2, A3, A4, A5, A6, A7, A8, A9, A10, ⟨%f, A11⟩, ⟨%g, A12⟩⟩
  isplitl [A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  isplitl [A11]
  · iexists f
    rw [owns_whole_eq]
    iexists f
    isplitr; · ipureintro; rfl
    iexact A11
  · iexists g
    rw [owns_whole_eq]
    iexists g
    isplitr; · ipureintro; rfl
    iexact A12

theorem scoped1_join (c : Dev nD) (X : S1x1024.Idx → Elt F .f32) (Y : S20480.Idx → Elt F .f32) :
    iprop(stg1 c ∗ owns (c : Thread nD τ) (Memref.whole cc1_scratch0) fullShare X ∗ owns (c : Thread nD τ) (Memref.whole cc1_scratch1) fullShare Y)
      ⊢ (Pipeline.scopedRest (Ix := Unit) (Name := ℕ) (U := U) (Lvl := ℕ) (Val := Elt F) spec1 c : sProp 𝕄) := by
  rw [scopedRest1_eq, owns_whole_eq, owns_whole_eq]
  unfold stg1
  iintro ⟨⟨A0, A1, A2, A3, A4, A5, A6, A7, A8, A9, A10⟩, ⟨%f, %hf, A11⟩, ⟨%g, %hg, A12⟩⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexists f; iexact A11
  iexists g; iexact A12

variable (V : Dev nD → Valuation τ sig (Elt F))

/-- The blocks region 1 reads at point `t`: the states, padded with zero beyond the array's end, and the whole arrays. -/
def hsIn (c : Dev nD) (t : Fin cfg1.N) : S1024x1x1024.Idx → Elt F .f32 :=
  win1_1.fill (grid1.coords t) (fun _ => z32) ((win1_1.blk t).view.read (Elt F) (V c main_arg4))
def in1_0 (c : Dev nD) (t : Fin cfg1.N) : S1.Idx → Elt F .f32 := (win1_0.blk t).view.read (Elt F) (V c main_v8)
def in1_2 (c : Dev nD) (t : Fin cfg1.N) : S20480.Idx → Elt F .f32 := (win1_2.blk t).view.read (Elt F) (V c main_v1_1)
def in1_3 (c : Dev nD) (t : Fin cfg1.N) : S20480.Idx → Elt F .f32 := (win1_3.blk t).view.read (Elt F) (V c main_v1_2)
def in1_4 (c : Dev nD) (t : Fin cfg1.N) : S512.Idx → Elt F .f32 := (win1_4.blk t).view.read (Elt F) (V c main_arg0)
def in1_5 (c : Dev nD) (t : Fin cfg1.N) : S512.Idx → Elt F .f32 := (win1_5.blk t).view.read (Elt F) (V c main_arg1)
def in1_6 (c : Dev nD) (t : Fin cfg1.N) : S1025.Idx → Elt F .f32 := (win1_6.blk t).view.read (Elt F) (V c main_v2)
def in1_7 (c : Dev nD) (t : Fin cfg1.N) : S3072x1025.Idx → Elt F .f32 := (win1_7.blk t).view.read (Elt F) (V c main_arg7)
def in1_8 (c : Dev nD) (t : Fin cfg1.N) : S3072x1024.Idx → Elt F .f32 := (win1_8.blk t).view.read (Elt F) (V c main_arg8)
def in1_9 (c : Dev nD) (t : Fin cfg1.N) : S3072.Idx → Elt F .f32 := (win1_9.blk t).view.read (Elt F) (V c main_arg9)
def in1_10 (c : Dev nD) (t : Fin cfg1.N) : S3072.Idx → Elt F .f32 := (win1_10.blk t).view.read (Elt F) (V c main_arg10)
def in1_11 (c : Dev nD) (t : Fin cfg1.N) : S512x512.Idx → Elt F .f32 := (win1_11.blk t).view.read (Elt F) (V c main_v3)
def in1_12 (c : Dev nD) (t : Fin cfg1.N) : S512x1024.Idx → Elt F .f32 := (win1_12.blk t).view.read (Elt F) (V c main_v4)
def in1_13 (c : Dev nD) (t : Fin cfg1.N) : S512x1024.Idx → Elt F .f32 := (win1_13.blk t).view.read (Elt F) (V c main_v5)
def in1_14 (c : Dev nD) (t : Fin cfg1.N) : S512.Idx → Elt F .f32 := (win1_14.blk t).view.read (Elt F) (V c main_v7)
def in1_15 (c : Dev nD) (t : Fin cfg1.N) : S512.Idx → Elt F .f32 := (win1_15.blk t).view.read (Elt F) (V c main_arg12)

/-- The first point. -/
def t00 : Fin cfg1.N := ⟨0, by decide⟩
/-- The attention weights of this run, -/
def W1 (c : Dev nD) : S20480.Idx → Elt F .f32 := wts (in1_0 V c t00) (in1_2 V c t00) (in1_3 V c t00)
/-- and the attended sum after the first `n` points. -/
def accN (c : Dev nD) : ℕ → S1x1024.Idx → Elt F .f32
  | 0 => k1_pay7
  | n + 1 => if h : n < cfg1.N then
      (if n = 19 then accLast (grid1.coords ⟨n, h⟩) (hsIn V c ⟨n, h⟩) (W1 V c) (accN c n)
        else k1_pay4 (hsIn V c ⟨n, h⟩) (wWin (grid1.coords ⟨n, h⟩) (W1 V c)) (accN c n))
      else accN c n

theorem accN_mid (c : Dev nD) (t : Fin cfg1.N) (ht : t.val ≠ 19) :
    accN V c (t.val + 1) = k1_pay4 (hsIn V c t) (wWin (grid1.coords t) (W1 V c)) (accN V c t.val) := by
  rw [accN, dif_pos t.isLt, if_neg ht]
theorem accN_last (c : Dev nD) (t : Fin cfg1.N) (ht : t.val = 19) :
    accN V c (t.val + 1) = accLast (grid1.coords t) (hsIn V c t) (W1 V c) (accN V c t.val) := by
  rw [accN, dif_pos t.isLt, if_pos ht]

/-- The new states' block at `t`, and the output. -/
def hsOut (c : Dev nD) (t : Fin cfg1.N) : S1024x1x1024.Idx → Elt F .f32 :=
  if t.val = 19 then hsLast (hsIn V c t) (in1_6 V c t) (in1_7 V c t) (in1_8 V c t) (in1_9 V c t) (in1_10 V c t) else k1_pay5 (hsIn V c t)
def outOut (c : Dev nD) (t : Fin cfg1.N) : S1x512.Idx → Elt F .f32 :=
  outLast (hsIn V c t) (accN V c (t.val + 1)) (in1_4 V c t) (in1_5 V c t) (in1_11 V c t) (in1_12 V c t) (in1_13 V c t) (in1_14 V c t) (in1_15 V c t)

/-- What region 1's core holds before point `n`: after the first point the weights and the attended sum so far. -/
def Phi1 (c : Dev nD) : ℕ → sProp 𝕄
  | 0 => Pipeline.scopedRest (Ix := Unit) (Name := ℕ) (U := U) (Lvl := ℕ) (Val := Elt F) spec1 c
  | n + 1 => iprop(stg1 c ∗ owns (c : Thread nD τ) (Memref.whole cc1_scratch0) fullShare (accN V c (n + 1)) ∗ owns (c : Thread nD τ) (Memref.whole cc1_scratch1) fullShare (W1 V c))

/-- The proof data of region 1 from the valuation `V`. -/
def dat1 (c : Dev nD) : Dat τ (Elt F) Unit ℕ U ℕ cfg1 c where
  A w := V c (Pipeline.arrRef spec1 w)
  after w t := match w with
    | ⟨0, _⟩ => in1_0 V c t
    | ⟨1, _⟩ => hsIn V c t
    | ⟨2, _⟩ => in1_2 V c t
    | ⟨3, _⟩ => in1_3 V c t
    | ⟨4, _⟩ => in1_4 V c t
    | ⟨5, _⟩ => in1_5 V c t
    | ⟨6, _⟩ => in1_6 V c t
    | ⟨7, _⟩ => in1_7 V c t
    | ⟨8, _⟩ => in1_8 V c t
    | ⟨9, _⟩ => in1_9 V c t
    | ⟨10, _⟩ => in1_10 V c t
    | ⟨11, _⟩ => in1_11 V c t
    | ⟨12, _⟩ => in1_12 V c t
    | ⟨13, _⟩ => in1_13 V c t
    | ⟨14, _⟩ => in1_14 V c t
    | ⟨15, _⟩ => in1_15 V c t
    | ⟨16, _⟩ => hsOut V c t
    | ⟨17, _⟩ => outOut V c t
    | ⟨_ + 18, h⟩ => absurd h (Nat.not_lt.2 (Nat.le_add_left _ _))
  Φ t := Phi1 V c t.val
  q _ := fullShare
  owed _ := 0

theorem before1_1 (c : Dev nD) (t : Fin cfg1.N) (d) : (dat1 (U := U) V c).before (1 : Fin 18) t d
    = win1_1.fill (grid1.coords t) d ((win1_1.blk t).view.read (Elt F) (V c main_arg4)) := by
  unfold Dat.before; rw [if_pos (fetch1_1 t)]; rfl
theorem before1_0 (c : Dev nD) (t : Fin cfg1.N) (d) : (dat1 (U := U) V c).before (0 : Fin 18) t d = in1_0 V c t :=
  ((dat1 (U := U) V c).before_in_eq_fetched (0 : Fin 18) rfl (fun _ => rfl) (fun _ _ _ => rfl) (fun _ => rfl) t d).trans rfl
theorem before1_2 (c : Dev nD) (t : Fin cfg1.N) (d) : (dat1 (U := U) V c).before (2 : Fin 18) t d = in1_2 V c t :=
  ((dat1 (U := U) V c).before_in_eq_fetched (2 : Fin 18) rfl (fun _ => rfl) (fun _ _ _ => rfl) (fun _ => rfl) t d).trans rfl
theorem before1_3 (c : Dev nD) (t : Fin cfg1.N) (d) : (dat1 (U := U) V c).before (3 : Fin 18) t d = in1_3 V c t :=
  ((dat1 (U := U) V c).before_in_eq_fetched (3 : Fin 18) rfl (fun _ => rfl) (fun _ _ _ => rfl) (fun _ => rfl) t d).trans rfl
theorem before1_4 (c : Dev nD) (t : Fin cfg1.N) (d) : (dat1 (U := U) V c).before (4 : Fin 18) t d = in1_4 V c t :=
  ((dat1 (U := U) V c).before_in_eq_fetched (4 : Fin 18) rfl (fun _ => rfl) (fun _ _ _ => rfl) (fun _ => rfl) t d).trans rfl
theorem before1_5 (c : Dev nD) (t : Fin cfg1.N) (d) : (dat1 (U := U) V c).before (5 : Fin 18) t d = in1_5 V c t :=
  ((dat1 (U := U) V c).before_in_eq_fetched (5 : Fin 18) rfl (fun _ => rfl) (fun _ _ _ => rfl) (fun _ => rfl) t d).trans rfl
theorem before1_6 (c : Dev nD) (t : Fin cfg1.N) (d) : (dat1 (U := U) V c).before (6 : Fin 18) t d = in1_6 V c t :=
  ((dat1 (U := U) V c).before_in_eq_fetched (6 : Fin 18) rfl (fun _ => rfl) (fun _ _ _ => rfl) (fun _ => rfl) t d).trans rfl
theorem before1_7 (c : Dev nD) (t : Fin cfg1.N) (d) : (dat1 (U := U) V c).before (7 : Fin 18) t d = in1_7 V c t :=
  ((dat1 (U := U) V c).before_in_eq_fetched (7 : Fin 18) rfl (fun _ => rfl) (fun _ _ _ => rfl) (fun _ => rfl) t d).trans rfl
theorem before1_8 (c : Dev nD) (t : Fin cfg1.N) (d) : (dat1 (U := U) V c).before (8 : Fin 18) t d = in1_8 V c t :=
  ((dat1 (U := U) V c).before_in_eq_fetched (8 : Fin 18) rfl (fun _ => rfl) (fun _ _ _ => rfl) (fun _ => rfl) t d).trans rfl
theorem before1_9 (c : Dev nD) (t : Fin cfg1.N) (d) : (dat1 (U := U) V c).before (9 : Fin 18) t d = in1_9 V c t :=
  ((dat1 (U := U) V c).before_in_eq_fetched (9 : Fin 18) rfl (fun _ => rfl) (fun _ _ _ => rfl) (fun _ => rfl) t d).trans rfl
theorem before1_10 (c : Dev nD) (t : Fin cfg1.N) (d) : (dat1 (U := U) V c).before (10 : Fin 18) t d = in1_10 V c t :=
  ((dat1 (U := U) V c).before_in_eq_fetched (10 : Fin 18) rfl (fun _ => rfl) (fun _ _ _ => rfl) (fun _ => rfl) t d).trans rfl
theorem before1_11 (c : Dev nD) (t : Fin cfg1.N) (d) : (dat1 (U := U) V c).before (11 : Fin 18) t d = in1_11 V c t :=
  ((dat1 (U := U) V c).before_in_eq_fetched (11 : Fin 18) rfl (fun _ => rfl) (fun _ _ _ => rfl) (fun _ => rfl) t d).trans rfl
theorem before1_12 (c : Dev nD) (t : Fin cfg1.N) (d) : (dat1 (U := U) V c).before (12 : Fin 18) t d = in1_12 V c t :=
  ((dat1 (U := U) V c).before_in_eq_fetched (12 : Fin 18) rfl (fun _ => rfl) (fun _ _ _ => rfl) (fun _ => rfl) t d).trans rfl
theorem before1_13 (c : Dev nD) (t : Fin cfg1.N) (d) : (dat1 (U := U) V c).before (13 : Fin 18) t d = in1_13 V c t :=
  ((dat1 (U := U) V c).before_in_eq_fetched (13 : Fin 18) rfl (fun _ => rfl) (fun _ _ _ => rfl) (fun _ => rfl) t d).trans rfl
theorem before1_14 (c : Dev nD) (t : Fin cfg1.N) (d) : (dat1 (U := U) V c).before (14 : Fin 18) t d = in1_14 V c t :=
  ((dat1 (U := U) V c).before_in_eq_fetched (14 : Fin 18) rfl (fun _ => rfl) (fun _ _ _ => rfl) (fun _ => rfl) t d).trans rfl
theorem before1_15 (c : Dev nD) (t : Fin cfg1.N) (d) : (dat1 (U := U) V c).before (15 : Fin 18) t d = in1_15 V c t :=
  ((dat1 (U := U) V c).before_in_eq_fetched (15 : Fin 18) rfl (fun _ => rfl) (fun _ _ _ => rfl) (fun _ => rfl) t d).trans rfl

/-- The body obligation of region 1 at the first point. -/
theorem body_first (c : Dev nD) (t : Fin cfg1.N) (h0 : t.val = 0) (h19 : t.val ≠ 19) :
    iprop((dat1 (U := U) V c).Φ t.castSucc ∗ (dat1 (U := U) V c).owesAt () t.castSucc
        ∗ (∃ d, owns (c : Thread nD τ) (st1_0 t) fullShare ((dat1 (U := U) V c).before (0 : Fin 18) t d))
        ∗ (∃ d, owns (c : Thread nD τ) (st1_1 t) fullShare ((dat1 (U := U) V c).before (1 : Fin 18) t d))
        ∗ (∃ d, owns (c : Thread nD τ) (st1_2 t) fullShare ((dat1 (U := U) V c).before (2 : Fin 18) t d))
        ∗ (∃ d, owns (c : Thread nD τ) (st1_3 t) fullShare ((dat1 (U := U) V c).before (3 : Fin 18) t d))
        ∗ (∃ d, owns (c : Thread nD τ) (st1_4 t) fullShare ((dat1 (U := U) V c).before (4 : Fin 18) t d))
        ∗ (∃ d, owns (c : Thread nD τ) (st1_5 t) fullShare ((dat1 (U := U) V c).before (5 : Fin 18) t d))
        ∗ (∃ d, owns (c : Thread nD τ) (st1_6 t) fullShare ((dat1 (U := U) V c).before (6 : Fin 18) t d))
        ∗ (∃ d, owns (c : Thread nD τ) (st1_7 t) fullShare ((dat1 (U := U) V c).before (7 : Fin 18) t d))
        ∗ (∃ d, owns (c : Thread nD τ) (st1_8 t) fullShare ((dat1 (U := U) V c).before (8 : Fin 18) t d))
        ∗ (∃ d, owns (c : Thread nD τ) (st1_9 t) fullShare ((dat1 (U := U) V c).before (9 : Fin 18) t d))
        ∗ (∃ d, owns (c : Thread nD τ) (st1_10 t) fullShare ((dat1 (U := U) V c).before (10 : Fin 18) t d))
        ∗ (∃ d, owns (c : Thread nD τ) (st1_11 t) fullShare ((dat1 (U := U) V c).before (11 : Fin 18) t d))
        ∗ (∃ d, owns (c : Thread nD τ) (st1_12 t) fullShare ((dat1 (U := U) V c).before (12 : Fin 18) t d))
        ∗ (∃ d, owns (c : Thread nD τ) (st1_13 t) fullShare ((dat1 (U := U) V c).before (13 : Fin 18) t d))
        ∗ (∃ d, owns (c : Thread nD τ) (st1_14 t) fullShare ((dat1 (U := U) V c).before (14 : Fin 18) t d))
        ∗ (∃ d, owns (c : Thread nD τ) (st1_15 t) fullShare ((dat1 (U := U) V c).before (15 : Fin 18) t d))
        ∗ (∃ d, owns (c : Thread nD τ) (st1_16 t) fullShare ((dat1 (U := U) V c).before (16 : Fin 18) t d))
        ∗ (∃ d, owns (c : Thread nD τ) (st1_17 t) fullShare ((dat1 (U := U) V c).before (17 : Fin 18) t d)))
      ⊢ wp Idealize.ShloMosaic.frame (wpE (defs₀ (F := F)) Variants.none c none) Set.univ (bodyAt1 t) fun _ =>
          iprop((dat1 (U := U) V c).Φ t.succ ∗ (dat1 (U := U) V c).owesAt () t.succ
            ∗ owns (c : Thread nD τ) (st1_0 t) fullShare (in1_0 V c t)
            ∗ (∃ d, owns (c : Thread nD τ) (st1_1 t) fullShare (win1_1.fill (grid1.coords t) d (win1_1.cut (grid1.coords t) (hsIn V c t))))
            ∗ owns (c : Thread nD τ) (st1_2 t) fullShare (in1_2 V c t)
            ∗ owns (c : Thread nD τ) (st1_3 t) fullShare (in1_3 V c t)
            ∗ owns (c : Thread nD τ) (st1_4 t) fullShare (in1_4 V c t)
            ∗ owns (c : Thread nD τ) (st1_5 t) fullShare (in1_5 V c t)
            ∗ owns (c : Thread nD τ) (st1_6 t) fullShare (in1_6 V c t)
            ∗ owns (c : Thread nD τ) (st1_7 t) fullShare (in1_7 V c t)
            ∗ owns (c : Thread nD τ) (st1_8 t) fullShare (in1_8 V c t)
            ∗ owns (c : Thread nD τ) (st1_9 t) fullShare (in1_9 V c t)
            ∗ owns (c : Thread nD τ) (st1_10 t) fullShare (in1_10 V c t)
            ∗ owns (c : Thread nD τ) (st1_11 t) fullShare (in1_11 V c t)
            ∗ owns (c : Thread nD τ) (st1_12 t) fullShare (in1_12 V c t)
            ∗ owns (c : Thread nD τ) (st1_13 t) fullShare (in1_13 V c t)
            ∗ owns (c : Thread nD τ) (st1_14 t) fullShare (in1_14 V c t)
            ∗ owns (c : Thread nD τ) (st1_15 t) fullShare (in1_15 V c t)
            ∗ (∃ d, owns (c : Thread nD τ) (st1_16 t) fullShare (win1_16.fill (grid1.coords t) d (win1_16.cut (grid1.coords t) (hsOut V c t))))
            ∗ (∃ d, owns (c : Thread nD τ) (st1_17 t) fullShare ((dat1 (U := U) V c).before (17 : Fin 18) t d))) := by
  have h20 : t.val < 20 := lt_of_lt_of_eq t.isLt N_1
  rw [show (dat1 (U := U) V c).owesAt () t.succ = (dat1 (U := U) V c).owesAt () t.castSucc from rfl]
  have e00 : t = t00 := Fin.ext h0
  have eW : wts (in1_0 V c t) (in1_2 V c t) (in1_3 V c t) = W1 V c := by rw [e00]; rfl
  rw [show (dat1 (U := U) V c).Φ t.castSucc = Pipeline.scopedRest (Ix := Unit) (Name := ℕ) (U := U) (Lvl := ℕ) (Val := Elt F) spec1 c from by
    show Phi1 V c t.val = _
    rw [h0]; rfl]
  rw [show (dat1 (U := U) V c).Φ t.succ = iprop(stg1 c ∗ owns (c : Thread nD τ) (Memref.whole cc1_scratch0) fullShare (accN V c (t.val + 1)) ∗ owns (c : Thread nD τ) (Memref.whole cc1_scratch1) fullShare (W1 V c)) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  icases (scoped1_split (F := F) c) $$ HΦ with ⟨HR, ⟨%Y0, S0⟩, ⟨%Y1, S1⟩⟩
  rw [before1_1 V c t d1, before1_0 V c t d0, before1_2 V c t d2, before1_3 V c t d3, before1_4 V c t d4, before1_5 V c t d5, before1_6 V c t d6, before1_7 V c t d7, before1_8 V c t d8, before1_9 V c t d9, before1_10 V c t d10, before1_11 V c t d11, before1_12 V c t d12, before1_13 V c t d13, before1_14 V c t d14, before1_15 V c t d15]
  iapply (body1_first (F := F) c (grid1.coords t) (conds_first t h0) (conds_mid t h19).1 (conds_mid t h19).2.1 (conds_mid t h19).2.2 (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14)) (st1_15 t) (hstage1_15 ((cfg1.slots t 15).cast nbuf1_15)) (st1_16 t) (hstage1_16 ((cfg1.slots t 16).cast nbuf1_16)) (st1_17 t) (hstage1_17 ((cfg1.slots t 17).cast nbuf1_17)) (Memref.whole cc1_scratch0) (Memref.isWhole_whole _) (Memref.whole cc1_scratch1) (Memref.isWhole_whole _)
    (in1_0 V c t) (win1_1.fill (grid1.coords t) d1 ((win1_1.blk t).view.read (Elt F) (V c main_arg4))) (in1_2 V c t) (in1_3 V c t) _ _ _ Set.univ _)
  isplitl [H0]; · iexact H0
  isplitl [H1]; · iexact H1
  isplitl [H2]; · iexact H2
  isplitl [H3]; · iexact H3
  isplitl [H16]; · iexact H16
  isplitl [S0]; · iexact S0
  isplitl [S1]; · iexact S1
  iintro ⟨H0, H1, H2, H3, H16, S0, S1⟩
  isplitl [HR S0 S1]
  · isplitl [HR]; · iexact HR
    isplitl [S0]
    · refine Entails.of_eq (congrArg (fun X => owns (c : Thread nD τ) (Memref.whole cc1_scratch0) fullShare X) ?_)
      rw [accN_mid V c t h19, fill1_eq t h19 d1 (fun _ => z32), eW, h0]
      rfl
    · exact Entails.of_eq (congrArg (fun X => owns (c : Thread nD τ) (Memref.whole cc1_scratch1) fullShare X) eW)
  isplitl [Ho]; · iexact Ho
  isplitl [H0]; · iexact H0
  isplitl [H1]
  · iexists d1
    rw [show win1_1.cut (grid1.coords t) (hsIn V c t) = (win1_1.blk t).view.read (Elt F) (V c main_arg4) from win1_1.cut_fill _ _ _]
    try iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists (k1_pay5 (win1_1.fill (grid1.coords t) d1 ((win1_1.blk t).view.read (Elt F) (V c main_arg4))))
    refine Entails.of_eq (congrArg (fun X => owns (c : Thread nD τ) (st1_16 t) fullShare X) (win1_16.fill_congr_cut (grid1.coords t) ?_).symm)
    rw [hsOut, if_neg h19, fill1_eq t h19 d1 (fun _ => z32)]
    rfl
  iexists d17; iexact H17

/-- The body obligation of region 1 at a middle point. -/
theorem body_mid (c : Dev nD) (t : Fin cfg1.N) (h0 : t.val ≠ 0) (h19 : t.val ≠ 19) :
    iprop((dat1 (U := U) V c).Φ t.castSucc ∗ (dat1 (U := U) V c).owesAt () t.castSucc
        ∗ (∃ d, owns (c : Thread nD τ) (st1_0 t) fullShare ((dat1 (U := U) V c).before (0 : Fin 18) t d))
        ∗ (∃ d, owns (c : Thread nD τ) (st1_1 t) fullShare ((dat1 (U := U) V c).before (1 : Fin 18) t d))
        ∗ (∃ d, owns (c : Thread nD τ) (st1_2 t) fullShare ((dat1 (U := U) V c).before (2 : Fin 18) t d))
        ∗ (∃ d, owns (c : Thread nD τ) (st1_3 t) fullShare ((dat1 (U := U) V c).before (3 : Fin 18) t d))
        ∗ (∃ d, owns (c : Thread nD τ) (st1_4 t) fullShare ((dat1 (U := U) V c).before (4 : Fin 18) t d))
        ∗ (∃ d, owns (c : Thread nD τ) (st1_5 t) fullShare ((dat1 (U := U) V c).before (5 : Fin 18) t d))
        ∗ (∃ d, owns (c : Thread nD τ) (st1_6 t) fullShare ((dat1 (U := U) V c).before (6 : Fin 18) t d))
        ∗ (∃ d, owns (c : Thread nD τ) (st1_7 t) fullShare ((dat1 (U := U) V c).before (7 : Fin 18) t d))
        ∗ (∃ d, owns (c : Thread nD τ) (st1_8 t) fullShare ((dat1 (U := U) V c).before (8 : Fin 18) t d))
        ∗ (∃ d, owns (c : Thread nD τ) (st1_9 t) fullShare ((dat1 (U := U) V c).before (9 : Fin 18) t d))
        ∗ (∃ d, owns (c : Thread nD τ) (st1_10 t) fullShare ((dat1 (U := U) V c).before (10 : Fin 18) t d))
        ∗ (∃ d, owns (c : Thread nD τ) (st1_11 t) fullShare ((dat1 (U := U) V c).before (11 : Fin 18) t d))
        ∗ (∃ d, owns (c : Thread nD τ) (st1_12 t) fullShare ((dat1 (U := U) V c).before (12 : Fin 18) t d))
        ∗ (∃ d, owns (c : Thread nD τ) (st1_13 t) fullShare ((dat1 (U := U) V c).before (13 : Fin 18) t d))
        ∗ (∃ d, owns (c : Thread nD τ) (st1_14 t) fullShare ((dat1 (U := U) V c).before (14 : Fin 18) t d))
        ∗ (∃ d, owns (c : Thread nD τ) (st1_15 t) fullShare ((dat1 (U := U) V c).before (15 : Fin 18) t d))
        ∗ (∃ d, owns (c : Thread nD τ) (st1_16 t) fullShare ((dat1 (U := U) V c).before (16 : Fin 18) t d))
        ∗ (∃ d, owns (c : Thread nD τ) (st1_17 t) fullShare ((dat1 (U := U) V c).before (17 : Fin 18) t d)))
      ⊢ wp Idealize.ShloMosaic.frame (wpE (defs₀ (F := F)) Variants.none c none) Set.univ (bodyAt1 t) fun _ =>
          iprop((dat1 (U := U) V c).Φ t.succ ∗ (dat1 (U := U) V c).owesAt () t.succ
            ∗ owns (c : Thread nD τ) (st1_0 t) fullShare (in1_0 V c t)
            ∗ (∃ d, owns (c : Thread nD τ) (st1_1 t) fullShare (win1_1.fill (grid1.coords t) d (win1_1.cut (grid1.coords t) (hsIn V c t))))
            ∗ owns (c : Thread nD τ) (st1_2 t) fullShare (in1_2 V c t)
            ∗ owns (c : Thread nD τ) (st1_3 t) fullShare (in1_3 V c t)
            ∗ owns (c : Thread nD τ) (st1_4 t) fullShare (in1_4 V c t)
            ∗ owns (c : Thread nD τ) (st1_5 t) fullShare (in1_5 V c t)
            ∗ owns (c : Thread nD τ) (st1_6 t) fullShare (in1_6 V c t)
            ∗ owns (c : Thread nD τ) (st1_7 t) fullShare (in1_7 V c t)
            ∗ owns (c : Thread nD τ) (st1_8 t) fullShare (in1_8 V c t)
            ∗ owns (c : Thread nD τ) (st1_9 t) fullShare (in1_9 V c t)
            ∗ owns (c : Thread nD τ) (st1_10 t) fullShare (in1_10 V c t)
            ∗ owns (c : Thread nD τ) (st1_11 t) fullShare (in1_11 V c t)
            ∗ owns (c : Thread nD τ) (st1_12 t) fullShare (in1_12 V c t)
            ∗ owns (c : Thread nD τ) (st1_13 t) fullShare (in1_13 V c t)
            ∗ owns (c : Thread nD τ) (st1_14 t) fullShare (in1_14 V c t)
            ∗ owns (c : Thread nD τ) (st1_15 t) fullShare (in1_15 V c t)
            ∗ (∃ d, owns (c : Thread nD τ) (st1_16 t) fullShare (win1_16.fill (grid1.coords t) d (win1_16.cut (grid1.coords t) (hsOut V c t))))
            ∗ (∃ d, owns (c : Thread nD τ) (st1_17 t) fullShare ((dat1 (U := U) V c).before (17 : Fin 18) t d))) := by
  have h20 : t.val < 20 := lt_of_lt_of_eq t.isLt N_1
  rw [show (dat1 (U := U) V c).owesAt () t.succ = (dat1 (U := U) V c).owesAt () t.castSucc from rfl]
  obtain ⟨n, hn⟩ : ∃ n, t.val = n + 1 := ⟨t.val - 1, by omega⟩
  rw [show (dat1 (U := U) V c).Φ t.castSucc = iprop(stg1 c ∗ owns (c : Thread nD τ) (Memref.whole cc1_scratch0) fullShare (accN V c t.val) ∗ owns (c : Thread nD τ) (Memref.whole cc1_scratch1) fullShare (W1 V c)) from by
    show Phi1 V c t.val = _
    rw [hn]; rfl]
  rw [show (dat1 (U := U) V c).Φ t.succ = iprop(stg1 c ∗ owns (c : Thread nD τ) (Memref.whole cc1_scratch0) fullShare (accN V c (t.val + 1)) ∗ owns (c : Thread nD τ) (Memref.whole cc1_scratch1) fullShare (W1 V c)) from rfl]
  iintro ⟨⟨HR, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  rw [before1_1 V c t d1, before1_0 V c t d0, before1_2 V c t d2, before1_3 V c t d3, before1_4 V c t d4, before1_5 V c t d5, before1_6 V c t d6, before1_7 V c t d7, before1_8 V c t d8, before1_9 V c t d9, before1_10 V c t d10, before1_11 V c t d11, before1_12 V c t d12, before1_13 V c t d13, before1_14 V c t d14, before1_15 V c t d15]
  iapply (body1_mid (F := F) c (grid1.coords t) (conds_later t h0) (conds_mid t h19).1 (conds_mid t h19).2.1 (conds_mid t h19).2.2 (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14)) (st1_15 t) (hstage1_15 ((cfg1.slots t 15).cast nbuf1_15)) (st1_16 t) (hstage1_16 ((cfg1.slots t 16).cast nbuf1_16)) (st1_17 t) (hstage1_17 ((cfg1.slots t 17).cast nbuf1_17)) (Memref.whole cc1_scratch0) (Memref.isWhole_whole _) (Memref.whole cc1_scratch1) (Memref.isWhole_whole _)
    (win1_1.fill (grid1.coords t) d1 ((win1_1.blk t).view.read (Elt F) (V c main_arg4))) _ (accN V c t.val) (W1 V c) Set.univ _)
  isplitl [H1]; · iexact H1
  isplitl [H16]; · iexact H16
  isplitl [S0]; · iexact S0
  isplitl [S1]; · iexact S1
  iintro ⟨H1, H16, S0, S1⟩
  isplitl [HR S0 S1]
  · isplitl [HR]; · iexact HR
    isplitl [S0]
    · refine Entails.of_eq (congrArg (fun X => owns (c : Thread nD τ) (Memref.whole cc1_scratch0) fullShare X) ?_)
      rw [accN_mid V c t h19, fill1_eq t h19 d1 (fun _ => z32)]
      rfl
    iexact S1
  isplitl [Ho]; · iexact Ho
  isplitl [H0]; · iexact H0
  isplitl [H1]
  · iexists d1
    rw [show win1_1.cut (grid1.coords t) (hsIn V c t) = (win1_1.blk t).view.read (Elt F) (V c main_arg4) from win1_1.cut_fill _ _ _]
    try iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists (k1_pay5 (win1_1.fill (grid1.coords t) d1 ((win1_1.blk t).view.read (Elt F) (V c main_arg4))))
    refine Entails.of_eq (congrArg (fun X => owns (c : Thread nD τ) (st1_16 t) fullShare X) (win1_16.fill_congr_cut (grid1.coords t) ?_).symm)
    rw [hsOut, if_neg h19, fill1_eq t h19 d1 (fun _ => z32)]
    rfl
  iexists d17; iexact H17

/-- The body obligation of region 1 at the last point. -/
theorem body_last (c : Dev nD) (t : Fin cfg1.N) (h0 : t.val ≠ 0) (h19 : t.val = 19) :
    iprop((dat1 (U := U) V c).Φ t.castSucc ∗ (dat1 (U := U) V c).owesAt () t.castSucc
        ∗ (∃ d, owns (c : Thread nD τ) (st1_0 t) fullShare ((dat1 (U := U) V c).before (0 : Fin 18) t d))
        ∗ (∃ d, owns (c : Thread nD τ) (st1_1 t) fullShare ((dat1 (U := U) V c).before (1 : Fin 18) t d))
        ∗ (∃ d, owns (c : Thread nD τ) (st1_2 t) fullShare ((dat1 (U := U) V c).before (2 : Fin 18) t d))
        ∗ (∃ d, owns (c : Thread nD τ) (st1_3 t) fullShare ((dat1 (U := U) V c).before (3 : Fin 18) t d))
        ∗ (∃ d, owns (c : Thread nD τ) (st1_4 t) fullShare ((dat1 (U := U) V c).before (4 : Fin 18) t d))
        ∗ (∃ d, owns (c : Thread nD τ) (st1_5 t) fullShare ((dat1 (U := U) V c).before (5 : Fin 18) t d))
        ∗ (∃ d, owns (c : Thread nD τ) (st1_6 t) fullShare ((dat1 (U := U) V c).before (6 : Fin 18) t d))
        ∗ (∃ d, owns (c : Thread nD τ) (st1_7 t) fullShare ((dat1 (U := U) V c).before (7 : Fin 18) t d))
        ∗ (∃ d, owns (c : Thread nD τ) (st1_8 t) fullShare ((dat1 (U := U) V c).before (8 : Fin 18) t d))
        ∗ (∃ d, owns (c : Thread nD τ) (st1_9 t) fullShare ((dat1 (U := U) V c).before (9 : Fin 18) t d))
        ∗ (∃ d, owns (c : Thread nD τ) (st1_10 t) fullShare ((dat1 (U := U) V c).before (10 : Fin 18) t d))
        ∗ (∃ d, owns (c : Thread nD τ) (st1_11 t) fullShare ((dat1 (U := U) V c).before (11 : Fin 18) t d))
        ∗ (∃ d, owns (c : Thread nD τ) (st1_12 t) fullShare ((dat1 (U := U) V c).before (12 : Fin 18) t d))
        ∗ (∃ d, owns (c : Thread nD τ) (st1_13 t) fullShare ((dat1 (U := U) V c).before (13 : Fin 18) t d))
        ∗ (∃ d, owns (c : Thread nD τ) (st1_14 t) fullShare ((dat1 (U := U) V c).before (14 : Fin 18) t d))
        ∗ (∃ d, owns (c : Thread nD τ) (st1_15 t) fullShare ((dat1 (U := U) V c).before (15 : Fin 18) t d))
        ∗ (∃ d, owns (c : Thread nD τ) (st1_16 t) fullShare ((dat1 (U := U) V c).before (16 : Fin 18) t d))
        ∗ (∃ d, owns (c : Thread nD τ) (st1_17 t) fullShare ((dat1 (U := U) V c).before (17 : Fin 18) t d)))
      ⊢ wp Idealize.ShloMosaic.frame (wpE (defs₀ (F := F)) Variants.none c none) Set.univ (bodyAt1 t) fun _ =>
          iprop((dat1 (U := U) V c).Φ t.succ ∗ (dat1 (U := U) V c).owesAt () t.succ
            ∗ owns (c : Thread nD τ) (st1_0 t) fullShare (in1_0 V c t)
            ∗ (∃ d, owns (c : Thread nD τ) (st1_1 t) fullShare (win1_1.fill (grid1.coords t) d (win1_1.cut (grid1.coords t) (hsIn V c t))))
            ∗ owns (c : Thread nD τ) (st1_2 t) fullShare (in1_2 V c t)
            ∗ owns (c : Thread nD τ) (st1_3 t) fullShare (in1_3 V c t)
            ∗ owns (c : Thread nD τ) (st1_4 t) fullShare (in1_4 V c t)
            ∗ owns (c : Thread nD τ) (st1_5 t) fullShare (in1_5 V c t)
            ∗ owns (c : Thread nD τ) (st1_6 t) fullShare (in1_6 V c t)
            ∗ owns (c : Thread nD τ) (st1_7 t) fullShare (in1_7 V c t)
            ∗ owns (c : Thread nD τ) (st1_8 t) fullShare (in1_8 V c t)
            ∗ owns (c : Thread nD τ) (st1_9 t) fullShare (in1_9 V c t)
            ∗ owns (c : Thread nD τ) (st1_10 t) fullShare (in1_10 V c t)
            ∗ owns (c : Thread nD τ) (st1_11 t) fullShare (in1_11 V c t)
            ∗ owns (c : Thread nD τ) (st1_12 t) fullShare (in1_12 V c t)
            ∗ owns (c : Thread nD τ) (st1_13 t) fullShare (in1_13 V c t)
            ∗ owns (c : Thread nD τ) (st1_14 t) fullShare (in1_14 V c t)
            ∗ owns (c : Thread nD τ) (st1_15 t) fullShare (in1_15 V c t)
            ∗ (∃ d, owns (c : Thread nD τ) (st1_16 t) fullShare (win1_16.fill (grid1.coords t) d (win1_16.cut (grid1.coords t) (hsOut V c t))))
            ∗ owns (c : Thread nD τ) (st1_17 t) fullShare (outOut V c t)) := by
  have h20 : t.val < 20 := lt_of_lt_of_eq t.isLt N_1
  rw [show (dat1 (U := U) V c).owesAt () t.succ = (dat1 (U := U) V c).owesAt () t.castSucc from rfl]
  obtain ⟨n, hn⟩ : ∃ n, t.val = n + 1 := ⟨t.val - 1, by omega⟩
  rw [show (dat1 (U := U) V c).Φ t.castSucc = iprop(stg1 c ∗ owns (c : Thread nD τ) (Memref.whole cc1_scratch0) fullShare (accN V c t.val) ∗ owns (c : Thread nD τ) (Memref.whole cc1_scratch1) fullShare (W1 V c)) from by
    show Phi1 V c t.val = _
    rw [hn]; rfl]
  rw [show (dat1 (U := U) V c).Φ t.succ = iprop(stg1 c ∗ owns (c : Thread nD τ) (Memref.whole cc1_scratch0) fullShare (accN V c (t.val + 1)) ∗ owns (c : Thread nD τ) (Memref.whole cc1_scratch1) fullShare (W1 V c)) from rfl]
  iintro ⟨⟨HR, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  rw [before1_1 V c t d1, before1_0 V c t d0, before1_2 V c t d2, before1_3 V c t d3, before1_4 V c t d4, before1_5 V c t d5, before1_6 V c t d6, before1_7 V c t d7, before1_8 V c t d8, before1_9 V c t d9, before1_10 V c t d10, before1_11 V c t d11, before1_12 V c t d12, before1_13 V c t d13, before1_14 V c t d14, before1_15 V c t d15]
  iapply (body1_last (F := F) c (grid1.coords t) (conds_later t h0) (conds_last t h19).1 (conds_last t h19).2.1 (conds_last t h19).2.2 (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14)) (st1_15 t) (hstage1_15 ((cfg1.slots t 15).cast nbuf1_15)) (st1_16 t) (hstage1_16 ((cfg1.slots t 16).cast nbuf1_16)) (st1_17 t) (hstage1_17 ((cfg1.slots t 17).cast nbuf1_17)) (Memref.whole cc1_scratch0) (Memref.isWhole_whole _) (Memref.whole cc1_scratch1) (Memref.isWhole_whole _)
    (win1_1.fill (grid1.coords t) d1 ((win1_1.blk t).view.read (Elt F) (V c main_arg4))) (in1_4 V c t) (in1_5 V c t) (in1_6 V c t) (in1_7 V c t) (in1_8 V c t) (in1_9 V c t) (in1_10 V c t) (in1_11 V c t) (in1_12 V c t) (in1_13 V c t) (in1_14 V c t) (in1_15 V c t) _ _ (accN V c t.val) (W1 V c) Set.univ _)
  isplitl [H1]; · iexact H1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S0]; · iexact S0
  isplitl [S1]; · iexact S1
  iintro ⟨H1, H4, H5, H6, H7, H8, H9, H10, H11, H12, H13, H14, H15, H16, H17, S0, S1⟩
  isplitl [HR S0 S1]
  · isplitl [HR]; · iexact HR
    isplitl [S0]
    · refine Entails.of_eq (congrArg (fun X => owns (c : Thread nD τ) (Memref.whole cc1_scratch0) fullShare X) ?_)
      rw [accN_last V c t h19]
      exact congrFun (congrFun (accLast_agree (fill1_agree t d1 (fun _ => z32) _ 544 (by omega)) _) _) _
    iexact S1
  isplitl [Ho]; · iexact Ho
  isplitl [H0]; · iexact H0
  isplitl [H1]
  · iexists d1
    rw [show win1_1.cut (grid1.coords t) (hsIn V c t) = (win1_1.blk t).view.read (Elt F) (V c main_arg4) from win1_1.cut_fill _ _ _]
    try iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists (hsLast (win1_1.fill (grid1.coords t) d1 ((win1_1.blk t).view.read (Elt F) (V c main_arg4))) (in1_6 V c t) (in1_7 V c t) (in1_8 V c t) (in1_9 V c t) (in1_10 V c t))
    refine Entails.of_eq (congrArg (fun X => owns (c : Thread nD τ) (st1_16 t) fullShare X) (win1_16.fill_congr_cut (grid1.coords t) ?_).symm)
    rw [hsOut, if_pos h19]
    exact cut1_agree t h19 (hsLast_agree (fill1_agree t d1 (fun _ => z32) _ 544 (by omega)) _ _ _ _ _)
  refine Entails.of_eq (congrArg (fun X => owns (c : Thread nD τ) (st1_17 t) fullShare X) ?_)
  rw [outOut, accN_last V c t h19]
  have hag := fill1_agree t d1 (fun _ => z32) ((win1_1.blk t).view.read (Elt F) (V c main_arg4)) 544 (by omega)
  rw [outLast_agree hag, accLast_agree hag]
  rfl

/-- What the library's obligation hands back of window `w` after point `t`. -/
def postW (c : Dev nD) (t : Fin cfg1.N) (w : Fin cfg1.W) : sProp 𝕄 :=
  match cfg1.idle w (cfg1.grid.coords t) with
  | true =>
    match (cfg1.win w).flush t with
    | false => iprop(∃ d, owns (c : Thread nD τ) ((cfg1.win w).stage (cfg1.slots t w)) fullShare ((dat1 (U := U) V c).before w t d))
    | true =>
      match cfg1.loose w with
      | true => iprop(∃ d, owns (c : Thread nD τ) ((cfg1.win w).stage (cfg1.slots t w)) fullShare ((cfg1.win w).fill (cfg1.grid.coords t) d ((cfg1.win w).cut (cfg1.grid.coords t) ((dat1 (U := U) V c).after w t))))
      | false => owns (c : Thread nD τ) ((cfg1.win w).stage (cfg1.slots t w)) fullShare ((dat1 (U := U) V c).after w t)
  | false =>
    match cfg1.loose w with
    | true => iprop(∃ d, owns (c : Thread nD τ) ((cfg1.win w).stage (cfg1.slots t w)) fullShare ((cfg1.win w).fill (cfg1.grid.coords t) d ((cfg1.win w).cut (cfg1.grid.coords t) ((dat1 (U := U) V c).after w t))))
    | false => owns (c : Thread nD τ) ((cfg1.win w).stage (cfg1.slots t w)) fullShare ((dat1 (U := U) V c).after w t)

theorem post16 (c : Dev nD) (t : Fin cfg1.N) : postW (U := U) V c t 16
    = iprop(∃ d, owns (c : Thread nD τ) (st1_16 t) fullShare (win1_16.fill (grid1.coords t) d (win1_16.cut (grid1.coords t) (hsOut V c t)))) := by
  unfold postW
  rw [show cfg1.idle 16 (cfg1.grid.coords t) = false from idle16 t]
  rfl
theorem post17_last (c : Dev nD) (t : Fin cfg1.N) (h : t.val = 19) : postW (U := U) V c t 17 = owns (c : Thread nD τ) (st1_17 t) fullShare (outOut V c t) := by
  unfold postW
  rw [show cfg1.idle 17 (cfg1.grid.coords t) = false from idle17_last t h]
  rfl
set_option maxHeartbeats 1000000 in
theorem post17_mid (c : Dev nD) (t : Fin cfg1.N) (h : t.val ≠ 19) : postW (U := U) V c t 17
    = iprop(∃ d, owns (c : Thread nD τ) (st1_17 t) fullShare ((dat1 (U := U) V c).before (17 : Fin 18) t d)) := by
  have hf : (cfg1.win 17).flush t = false := by
    have h20 : t.val < 20 := lt_of_lt_of_eq t.isLt N_1
    exact Bool.eq_false_iff.mpr fun hc => h (by have := (flush1_17 t).mp hc; omega)
  unfold postW
  rw [show cfg1.idle 17 (cfg1.grid.coords t) = true from idle17_mid t h]
  show (match (cfg1.win 17).flush t with | false => _ | true => _) = _
  rw [hf]

set_option maxHeartbeats 1000000 in
theorem obl1 (c : Dev nD) (t : Fin cfg1.N) :
    iprop((dat1 (U := U) V c).Φ t.castSucc ∗ (dat1 (U := U) V c).owesAt () t.castSucc
        ∗ bigSep Finset.univ fun w : Fin cfg1.W => iprop(∃ d, owns (c : Thread nD τ) ((cfg1.win w).stage (cfg1.slots t w)) fullShare ((dat1 (U := U) V c).before w t d)))
      ⊢ wp Idealize.ShloMosaic.frame (wpE (defs₀ (F := F)) Variants.none c none) Set.univ (bodyAt1 t) fun _ =>
          iprop((dat1 (U := U) V c).Φ t.succ ∗ (dat1 (U := U) V c).owesAt () t.succ ∗ bigSep Finset.univ (postW (U := U) V c t)) := by
  rw [bigSep_W1, bigSep_W1, post16]
  by_cases h19 : t.val = 19
  · rw [post17_last V c t h19]
    exact body_last V c t (by omega) h19
  · rw [post17_mid V c t h19]
    by_cases h0 : t.val = 0
    · exact body_first V c t h0 h19
    · exact body_mid V c t h0 h19

/-- The library's body obligation for region 1. -/
theorem body_obligation1 (c : Dev nD) : BodyObligationLoose (dat1 (U := U) V c) (defs₀ (F := F)) Variants.none () Set.univ := fun t => obl1 V c t

end Cert.KernelIdeal.Value

end
-- ==== Proof.Ideal.Launch.lean ====
module

public import proofs.«01_k».proof.Proof.Ideal.Region1
public import proofs.«01_k».proof.Proof.Gen.KernelIdeal.Regions
public import Idealize.ShloMosaic.Lib.Pipeline.RegionsLoop
public import Idealize.ShloMosaic.Lib.Pipeline.Regions

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
open Idealize.ShloMosaic.Rounds

/-- The resource algebra: the pipeline library's, beside the counters. -/
abbrev UU : Type := UR sig nD τ × Counters

local notation "𝕄" => MT nD τ sig Unit (Elt F) ℕ UU ℕ

abbrev EP : Emb (UR sig nD τ) (MT nD τ sig Unit (Elt F) ℕ UU ℕ) := embL
abbrev L₀ : GSem nD τ sig → Finset Unit := fun _ => ∅
abbrev lv₀ : GSem nD τ sig → Unit → ℕ := fun _ _ => 0

variable (m : (ℓ : Loc nD τ sig) → Buf (Elt F) ℓ) (ρ : Dev nD → PrngReg)

/-- What rides along a region: what the core owes, nothing. -/
abbrev Erest (_ : Fin 3) (c : Dev nD) : sProp 𝕄 := iprop(∃ W, owes (c : Thread nD τ) (0 : CellTallies nD τ sig Unit) W)

/-- The pipeline library's launch tokens. -/
def u₀ : UU := (initOf (Pipeline.cells cfgs cellOf_inj) (Pipeline.launchToks cfgs cellOf_inj), 1)

set_option maxHeartbeats 1000000 in
set_option backward.isDefEq.respectTransparency.types false in
/-- The program's run from a record of each region, for any contents the regions leave: it ends, with the results at the last valuation, the arguments as launched and every counter at zero. -/
theorem run_of (outs : Outs (F := F)) (pdats : (p : Fin 2) → (c : Dev nD) → Dat τ (Elt F) Unit ℕ UU ℕ (cfgs p) c)
    (R0 : Pipeline.RegionSeg (pcfgs (F := F)) adm pdats () defs₀ Variants.none L₀ lv₀ 0)
    (hpre0 : ∀ c : Dev nD, iprop(StableHlo.held (c : Thread nD τ) (Pipeline.ucRefs τ sig) (V1 m c) ∗ Erest (F := F) 0 c) ⊢ R0.pre c)
    (hpost0 : ∀ c : Dev nD, R0.post c ⊢ iprop(StableHlo.held (c : Thread nD τ) (Pipeline.ucRefs τ sig) (V2 m outs c) ∗ Erest (F := F) 1 c))
    (R1 : Pipeline.RegionSeg (pcfgs (F := F)) adm pdats () defs₀ Variants.none L₀ lv₀ 1)
    (hpre1 : ∀ c : Dev nD, iprop(StableHlo.held (c : Thread nD τ) (Pipeline.ucRefs τ sig) (V3 m outs c) ∗ Erest (F := F) 1 c) ⊢ R1.pre c)
    (hpost1 : ∀ c : Dev nD, R1.post c ⊢ iprop(StableHlo.held (c : Thread nD τ) (Pipeline.ucRefs τ sig) (V4 m outs c) ∗ Erest (F := F) 2 c)) :
    θ_run defs (onTc (τ := τ) (main (F := F))) ⟨m, fun _ => 0, ρ⟩ (fun r => (∀ c : Dev nD, r.2.mem ((c.tc : Thread nD τ).loc main_v9_1) = V5 m outs c main_v9_1 ∧ r.2.mem ((c.tc : Thread nD τ).loc main_v1_0) = V5 m outs c main_v1_0 ∧ r.2.mem ((c.tc : Thread nD τ).loc main_v9_0) = V5 m outs c main_v9_0 ∧ r.2.mem ((c.tc : Thread nD τ).loc main_v11) = V5 m outs c main_v11 ∧ r.2.mem ((c.tc : Thread nD τ).loc main_v12) = V5 m outs c main_v12 ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12)) ∧ r.2.sem = fun _ => 0) := by
  refine Pipeline.θ_run_regions_kit_dev_sems (pcfgs (F := F)) adm pdats () cellOf_inj EP defs₀ Variants.none L₀ lv₀ m ρ main
    (segs m outs Variants.none L₀ lv₀ (Erest (F := F)) () pdats R0 R1)
    (fun c Q => by
      rewrite [main_chain c, Pipeline.Seg.run_eq_chain,
        show (segs m outs Variants.none L₀ lv₀ (Erest (F := F)) () pdats R0 R1 c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Erest (F := F) 0 c))
    (Tₙ := fun c => iprop(StableHlo.held (c : Thread nD τ) (Pipeline.ucRefs τ sig) (V5 m outs c)))
    (hch := fun c => ⟨.rfl, hpre0 c, hpost0 c, hpre1 c, hpost1 c, sep_mono .rfl .rfl⟩)
    (hinit := by
      refine Pipeline.initEach L₀ lv₀ fun c => ?_
      rw [show unscopedBufs c (fun b => m ((c : Thread nD τ).loc b)) = StableHlo.held (c : Thread nD τ) (Pipeline.ucRefs τ sig) (V0 m c) from Pipeline.unscopedBufs_held (Ix := Unit) (Name := ℕ) (U := UU) (Lvl := ℕ) c (V0 m c)]
      iintro ⟨⟨Hh, -, HO, -, -, -⟩, -⟩
      imodintro
      isplitl [Hh]; · iexact Hh
      iexists ∅; iexact HO)
    (QY := fun c s => s.mem ((c.tc : Thread nD τ).loc main_v9_1) = V5 m outs c main_v9_1 ∧ s.mem ((c.tc : Thread nD τ).loc main_v1_0) = V5 m outs c main_v1_0 ∧ s.mem ((c.tc : Thread nD τ).loc main_v9_0) = V5 m outs c main_v9_0 ∧ s.mem ((c.tc : Thread nD τ).loc main_v11) = V5 m outs c main_v11 ∧ s.mem ((c.tc : Thread nD τ).loc main_v12) = V5 m outs c main_v12 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V5 m outs c) s') $$ [Hh HSI]
  · isplitl [Hh] <;> iassumption
  icases Hr with ⟨%h, HSI⟩
  imodintro
  isplitr
  · ipureintro
    exact ⟨h (Proc.devRef .tc main_v9_1) (Finset.mem_filter.mpr ⟨StableHlo.devRef_mem_tcRefs main_v9_1, by decide⟩),
        h (Proc.devRef .tc main_v1_0) (Finset.mem_filter.mpr ⟨StableHlo.devRef_mem_tcRefs main_v1_0, by decide⟩),
        h (Proc.devRef .tc main_v9_0) (Finset.mem_filter.mpr ⟨StableHlo.devRef_mem_tcRefs main_v9_0, by decide⟩),
        h (Proc.devRef .tc main_v11) (Finset.mem_filter.mpr ⟨StableHlo.devRef_mem_tcRefs main_v11, by decide⟩),
        h (Proc.devRef .tc main_v12) (Finset.mem_filter.mpr ⟨StableHlo.devRef_mem_tcRefs main_v12, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c),
        (h (Proc.devRef .tc main_arg5) (Finset.mem_filter.mpr ⟨StableHlo.devRef_mem_tcRefs main_arg5, by decide⟩)).trans (V5_main_arg5 m outs c),
        (h (Proc.devRef .tc main_arg6) (Finset.mem_filter.mpr ⟨StableHlo.devRef_mem_tcRefs main_arg6, by decide⟩)).trans (V5_main_arg6 m outs c),
        (h (Proc.devRef .tc main_arg7) (Finset.mem_filter.mpr ⟨StableHlo.devRef_mem_tcRefs main_arg7, by decide⟩)).trans (V5_main_arg7 m outs c),
        (h (Proc.devRef .tc main_arg8) (Finset.mem_filter.mpr ⟨StableHlo.devRef_mem_tcRefs main_arg8, by decide⟩)).trans (V5_main_arg8 m outs c),
        (h (Proc.devRef .tc main_arg9) (Finset.mem_filter.mpr ⟨StableHlo.devRef_mem_tcRefs main_arg9, by decide⟩)).trans (V5_main_arg9 m outs c),
        (h (Proc.devRef .tc main_arg10) (Finset.mem_filter.mpr ⟨StableHlo.devRef_mem_tcRefs main_arg10, by decide⟩)).trans (V5_main_arg10 m outs c),
        (h (Proc.devRef .tc main_arg11) (Finset.mem_filter.mpr ⟨StableHlo.devRef_mem_tcRefs main_arg11, by decide⟩)).trans (V5_main_arg11 m outs c),
        (h (Proc.devRef .tc main_arg12) (Finset.mem_filter.mpr ⟨StableHlo.devRef_mem_tcRefs main_arg12, by decide⟩)).trans (V5_main_arg12 m outs c)⟩
  · iexact HSI

end Cert.KernelIdeal.Value

end
-- ==== Proof.Ideal.Regs.lean ====
module

public import proofs.«01_k».proof.Proof.Ideal.Launch

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
open Idealize.ShloMosaic.Rounds

section Any

/-! ## The regions from any valuation, over any algebra -/

variable (U : Type) [URA U] (V V' : Dev nD → Valuation τ sig (Elt F))

/-- The buffers after region 0 entered at `V`, the scores' buffer holding `x`. -/
def after0 (c : Dev nD) (x : S20480.Idx → Elt F .f32) : Valuation τ sig (Elt F) :=
  Function.update (Function.update (Function.update (V c) main_v1_0 ((dat0 (U := U) V c).arrAt 3 cfg0.N)) main_v1_1 x)
    main_v1_2 ((dat0 (U := U) V c).arrAt 5 cfg0.N)
/-- The buffers after region 1 entered at `V`. -/
def after1 (c : Dev nD) : Valuation τ sig (Elt F) :=
  Function.update (Function.update (V c) main_v9_0 ((dat1 (U := U) V c).arrAt 16 cfg1.N)) main_v9_1 ((dat1 (U := U) V c).arrAt 17 cfg1.N)

/-- Region 0 leaves the features' state, -/
theorem after0_0 (c : Dev nD) (x) : after0 U V c x main_v1_0 = (dat0 (U := U) V c).arrAt 3 cfg0.N := by
  unfold after0
  rw [Function.update_of_ne (StableHlo.devRef_ne_of_ne (by decide)), Function.update_of_ne (StableHlo.devRef_ne_of_ne (by decide)), Function.update_self]
/-- the scores, -/
theorem after0_1 (c : Dev nD) (x) : after0 U V c x main_v1_1 = x := by
  unfold after0
  rw [Function.update_of_ne (StableHlo.devRef_ne_of_ne (by decide)), Function.update_self]
/-- the times' state, -/
theorem after0_2 (c : Dev nD) (x) : after0 U V c x main_v1_2 = (dat0 (U := U) V c).arrAt 5 cfg0.N := by
  unfold after0
  rw [Function.update_self]
/-- and every other buffer as it was. -/
theorem after0_of (c : Dev nD) (x) (r : Ref sig .tc) (h : r ∉ ([main_v1_0, main_v1_1, main_v1_2] : List (Ref sig .tc))) : after0 U V c x r = V c r := by
  have h0 : r ≠ main_v1_0 := by rintro rfl; exact h (by decide)
  have h1 : r ≠ main_v1_1 := by rintro rfl; exact h (by decide)
  have h2 : r ≠ main_v1_2 := by rintro rfl; exact h (by decide)
  unfold after0
  rw [Function.update_of_ne (StableHlo.devRef_ne_of_ne h2), Function.update_of_ne (StableHlo.devRef_ne_of_ne h1), Function.update_of_ne (StableHlo.devRef_ne_of_ne h0)]
/-- Region 1 leaves the hidden state, -/
theorem after1_0 (c : Dev nD) : after1 U V c main_v9_0 = (dat1 (U := U) V c).arrAt 16 cfg1.N := by
  unfold after1
  rw [Function.update_of_ne (StableHlo.devRef_ne_of_ne (by decide)), Function.update_self]
/-- the output, -/
theorem after1_1 (c : Dev nD) : after1 U V c main_v9_1 = (dat1 (U := U) V c).arrAt 17 cfg1.N := by
  unfold after1
  rw [Function.update_self]
/-- and every other buffer as it was. -/
theorem after1_of (c : Dev nD) (r : Ref sig .tc) (h : r ∉ ([main_v9_0, main_v9_1] : List (Ref sig .tc))) : after1 U V c r = V c r := by
  have h0 : r ≠ main_v9_0 := by rintro rfl; exact h (by decide)
  have h1 : r ≠ main_v9_1 := by rintro rfl; exact h (by decide)
  unfold after1
  rw [Function.update_of_ne (StableHlo.devRef_ne_of_ne h1), Function.update_of_ne (StableHlo.devRef_ne_of_ne h0)]

/-- The proof data of the two regions, entered at `V` and at `V'`. -/
def pdatsAt : (p : Fin 2) → (c : Dev nD) → Dat τ (Elt F) Unit ℕ U ℕ (cfgs p) c
  | ⟨0, _⟩ => fun c => dat0 V c
  | ⟨1, _⟩ => fun c => dat1 V' c

/-- Every buffer at `V`, the core owing nothing. -/
abbrev bufsAt (V : Dev nD → Valuation τ sig (Elt F)) (c : Dev nD) : sProp (MT nD τ sig Unit (Elt F) ℕ U ℕ) :=
  iprop(unscopedBufs c (fun b => V c b) ∗ ∃ W, owes (c : Thread nD τ) (0 : CellTallies nD τ sig Unit) W)

set_option maxHeartbeats 4000000 in
set_option backward.isDefEq.respectTransparency.types false in
/-- Region 0's arrays, sorted out of the buffers at its entry. -/
theorem entry0 (c : Dev nD) : bufsAt U V c ⊢ |={Set.univ}=> iprop((pdatsAt U V V' 0 c).arrays ((pdatsAt U V V' 0 c).arrAt · 0)
    ∗ Pipeline.prefHeld (pcfgs (F := F) 0).pre c (fun _ => fullShare) (adm (F := F) 0).1 ∗ (pdatsAt U V V' 0 c).owesAt () 0 ∗ BI.emp
    ∗ Pipeline.unscopedRest (Ix := Unit) (Name := ℕ) (U := U) (Lvl := ℕ) spec0 c (fun b => V c b)) := by
  have hsplit := Pipeline.arrays_of_unscopedBufs (p := 0) (pcfgs (F := F)) adm (pdatsAt U V V') launch0.win launch0.arr_whole c
    ((pdatsAt U V V' 0 c).share_full fun _ => rfl) (fun b => V c b) fun _ => rfl
  iintro ⟨Hub, HO⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact Hrest

set_option maxHeartbeats 4000000 in
set_option backward.isDefEq.respectTransparency.types false in
/-- The buffers at region 0's exit, its arrays as named but for the scores'. -/
theorem exit0 (c : Dev nD) (A : (w : Fin 6) → Buf (Elt F) ((cfg0.win w).arr.view.loc (c.tc : Thread nD τ)))
    (hA : ∀ w : Fin 6, w ≠ 4 → A w = (pdatsAt U V V' 0 c).arrAt w cfg0.N) :
    iprop((pdatsAt U V V' 0 c).arrays A ∗ (pdatsAt U V V' 0 c).owesAt () (Fin.last cfg0.N) ∗ BI.emp
      ∗ Pipeline.unscopedRest (Ix := Unit) (Name := ℕ) (U := U) (Lvl := ℕ) spec0 c (fun b => V c b)) ⊢ bufsAt U (fun c => after0 U V c (A 4)) c := by
  have hjoin := Pipeline.unscopedBufs_of_arrays (p := 0) (pcfgs (F := F)) adm (Ix := Unit) (Name := ℕ) (U := U) (Lvl := ℕ) launch0.win launch0.arr_whole c
    (pdatsAt U V V') ((pdatsAt U V V' 0 c).share_full fun _ => rfl) (fun b => V c b) (fun b => after0 U V c (A 4) b) A
    (fun w => by
      fin_cases w
      · exact (hA 0 (by decide)).trans (((pdatsAt U V V' 0 c).arrAt_in 0 rfl _).trans (after0_of U V c (A 4) main_arg3 (by decide)).symm)
      · exact (hA 1 (by decide)).trans (((pdatsAt U V V' 0 c).arrAt_in 1 rfl _).trans (after0_of U V c (A 4) main_arg0 (by decide)).symm)
      · exact (hA 2 (by decide)).trans (((pdatsAt U V V' 0 c).arrAt_in 2 rfl _).trans (after0_of U V c (A 4) main_arg5 (by decide)).symm)
      · exact (hA 3 (by decide)).trans (after0_0 U V c (A 4)).symm
      · exact (after0_1 U V c (A 4)).symm
      · exact (hA 5 (by decide)).trans (after0_2 U V c (A 4)).symm)
    (fun b hb => (by
      refine after0_of U V c (A 4) b ?_
      intro hmem
      simp only [List.mem_cons, List.not_mem_nil, or_false] at hmem
      rcases hmem with rfl | rfl | rfl
      · exact hb (Finset.mem_image.mpr ⟨3, Finset.mem_univ _, rfl⟩)
      · exact hb (Finset.mem_image.mpr ⟨4, Finset.mem_univ _, rfl⟩)
      · exact hb (Finset.mem_image.mpr ⟨5, Finset.mem_univ _, rfl⟩)))
  iintro ⟨Ha, HO, -, Hrest⟩
  isplitl [Ha Hrest]
  · iapply hjoin; isplitl [Ha] <;> iassumption
  unfold Pipeline.Dat.owesAt Pipeline.owesWithin
  icases HO with ⟨%W, -, HO⟩; iexists W; iexact HO

set_option maxHeartbeats 4000000 in
set_option backward.isDefEq.respectTransparency.types false in
/-- Region 1, entered with every buffer at its valuation, left with its results' buffers updated. -/
def reg1At : Pipeline.RegionSeg (pcfgs (F := F)) adm (pdatsAt U V V') () defs₀ Variants.none L₀ lv₀ 1 where
  win := launch1.win.to₀
  block_pos := launch1.block_pos
  stage_whole := launch1.stage_whole
  K := PEmpty
  osem k := k.elim
  ho := Pipeline.OwnSemFacts.none _
  hbody c := body_obligation1 V' c
  hwaits := Pipeline.hwaits_of_owed_zero _ _ _ _ L₀ lv₀ 1 fun _ _ => rfl
  pre := bufsAt U V'
  post := bufsAt U (after1 U V')
  X _ := BI.emp
  Y _ := BI.emp
  Z c := Pipeline.unscopedRest (Ix := Unit) (Name := ℕ) (U := U) (Lvl := ℕ) spec1 c (fun b => V' c b)
  hentry c := by
    rw [Pipeline.ownSems0_none]
    have hsplit := Pipeline.arrays_of_unscopedBufs (p := 1) (pcfgs (F := F)) adm (pdatsAt U V V') launch1.win launch1.arr_whole c
      ((pdatsAt U V V' 1 c).share_full fun _ => rfl) (fun b => V' c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdatsAt U V V' 1 c).Φ 0 = Pipeline.scopedRest (Ix := Unit) (Name := ℕ) (U := U) (Lvl := ℕ) (Val := Elt F) spec1 c from rfl]
    iintro ⟨-, -, Hr⟩; iexact Hr
  hout c := by
    rw [Pipeline.ownSems0_none, show (pdatsAt U V V' 1 c).Φ (Fin.last _) = iprop(stg1 c ∗ owns (c : Thread nD τ) (Memref.whole cc1_scratch0) fullShare (accN V' c 20) ∗ owns (c : Thread nD τ) (Memref.whole cc1_scratch1) fullShare (W1 V' c)) from rfl]
    iintro Hr
    isplitr; · iempintro
    isplitr; · iempintro
    iapply (scoped1_join c _ _) $$ Hr
  hexit c := by
    have hjoin := Pipeline.unscopedBufs_of_arrays (p := 1) (pcfgs (F := F)) adm (Ix := Unit) (Name := ℕ) (U := U) (Lvl := ℕ) launch1.win launch1.arr_whole c
      (pdatsAt U V V') ((pdatsAt U V V' 1 c).share_full fun _ => rfl) (fun b => V' c b) (fun b => after1 U V' c b) ((pdatsAt U V V' 1 c).arrAt · cfg1.N)
      (fun w => by
        fin_cases w
        · exact ((pdatsAt U V V' 1 c).arrAt_in 0 rfl _).trans (after1_of U V' c main_v8 (by decide)).symm
        · exact ((pdatsAt U V V' 1 c).arrAt_in 1 rfl _).trans (after1_of U V' c main_arg4 (by decide)).symm
        · exact ((pdatsAt U V V' 1 c).arrAt_in 2 rfl _).trans (after1_of U V' c main_v1_1 (by decide)).symm
        · exact ((pdatsAt U V V' 1 c).arrAt_in 3 rfl _).trans (after1_of U V' c main_v1_2 (by decide)).symm
        · exact ((pdatsAt U V V' 1 c).arrAt_in 4 rfl _).trans (after1_of U V' c main_arg0 (by decide)).symm
        · exact ((pdatsAt U V V' 1 c).arrAt_in 5 rfl _).trans (after1_of U V' c main_arg1 (by decide)).symm
        · exact ((pdatsAt U V V' 1 c).arrAt_in 6 rfl _).trans (after1_of U V' c main_v2 (by decide)).symm
        · exact ((pdatsAt U V V' 1 c).arrAt_in 7 rfl _).trans (after1_of U V' c main_arg7 (by decide)).symm
        · exact ((pdatsAt U V V' 1 c).arrAt_in 8 rfl _).trans (after1_of U V' c main_arg8 (by decide)).symm
        · exact ((pdatsAt U V V' 1 c).arrAt_in 9 rfl _).trans (after1_of U V' c main_arg9 (by decide)).symm
        · exact ((pdatsAt U V V' 1 c).arrAt_in 10 rfl _).trans (after1_of U V' c main_arg10 (by decide)).symm
        · exact ((pdatsAt U V V' 1 c).arrAt_in 11 rfl _).trans (after1_of U V' c main_v3 (by decide)).symm
        · exact ((pdatsAt U V V' 1 c).arrAt_in 12 rfl _).trans (after1_of U V' c main_v4 (by decide)).symm
        · exact ((pdatsAt U V V' 1 c).arrAt_in 13 rfl _).trans (after1_of U V' c main_v5 (by decide)).symm
        · exact ((pdatsAt U V V' 1 c).arrAt_in 14 rfl _).trans (after1_of U V' c main_v7 (by decide)).symm
        · exact ((pdatsAt U V V' 1 c).arrAt_in 15 rfl _).trans (after1_of U V' c main_arg12 (by decide)).symm
        · exact (after1_0 U V' c).symm
        · exact (after1_1 U V' c).symm)
      (fun b hb => (by
        refine after1_of U V' c b ?_
        intro hmem
        simp only [List.mem_cons, List.not_mem_nil, or_false] at hmem
        rcases hmem with rfl | rfl
        · exact hb (Finset.mem_image.mpr ⟨16, Finset.mem_univ _, rfl⟩)
        · exact hb (Finset.mem_image.mpr ⟨17, Finset.mem_univ _, rfl⟩)
        ))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Any

variable (m : (ℓ : Loc nD τ sig) → Buf (Elt F) ℓ) (ρ : Dev nD → PrngReg)

/-- The buffers after region 0, -/
def X2 (c : Dev nD) : Valuation τ sig (Elt F) := after0 UU (V1 m) c ((dat0 (U := UU) (V1 m) c).arrAt 4 cfg0.N)
/-- when region 1 is entered, -/
def X3 (c : Dev nD) : Valuation τ sig (Elt F) := StableHlo.after hostOps1 (X2 m c)
/-- and after it. -/
def X4 (c : Dev nD) : Valuation τ sig (Elt F) := after1 UU (X3 m) c
/-- What the regions leave in their results. -/
def outs : Outs (F := F) := fun k r c => if k = 2 then X2 m c r else X4 m c r

/-- Region 0's results: the features' state, -/
theorem X2_0 (c : Dev nD) : X2 m c main_v1_0 = (dat0 (U := UU) (V1 m) c).arrAt 3 cfg0.N := after0_0 UU (V1 m) c _
/-- the scores, -/
theorem X2_1 (c : Dev nD) : X2 m c main_v1_1 = (dat0 (U := UU) (V1 m) c).arrAt 4 cfg0.N := after0_1 UU (V1 m) c _
/-- the times' state. -/
theorem X2_2 (c : Dev nD) : X2 m c main_v1_2 = (dat0 (U := UU) (V1 m) c).arrAt 5 cfg0.N := after0_2 UU (V1 m) c _
/-- Every other buffer is as region 0 found it. -/
theorem X2_of (c : Dev nD) (r : Ref sig .tc) (h : r ∉ ([main_v1_0, main_v1_1, main_v1_2] : List (Ref sig .tc))) : X2 m c r = V1 m c r :=
  after0_of UU (V1 m) c _ r h
/-- The valuations named here are the run's, after region 0, -/
theorem V2_eq (c : Dev nD) : V2 m (outs m) c = X2 m c := by
  have e0 : outs m 2 main_v1_0 c = (dat0 (U := UU) (V1 m) c).arrAt 3 cfg0.N := (if_pos rfl).trans (X2_0 m c)
  have e1 : outs m 2 main_v1_1 c = (dat0 (U := UU) (V1 m) c).arrAt 4 cfg0.N := (if_pos rfl).trans (X2_1 m c)
  have e2 : outs m 2 main_v1_2 c = (dat0 (U := UU) (V1 m) c).arrAt 5 cfg0.N := (if_pos rfl).trans (X2_2 m c)
  unfold V2 X2 after0
  rw [e0, e1, e2]
/-- before region 1, -/
theorem V3_eq (c : Dev nD) : V3 m (outs m) c = X3 m c := congrArg (StableHlo.after hostOps1) (V2_eq m c)
/-- Region 1's results: the hidden state, -/
theorem X4_0 (c : Dev nD) : X4 m c main_v9_0 = (dat1 (U := UU) (X3 m) c).arrAt 16 cfg1.N := after1_0 UU (X3 m) c
/-- the output. -/
theorem X4_1 (c : Dev nD) : X4 m c main_v9_1 = (dat1 (U := UU) (X3 m) c).arrAt 17 cfg1.N := after1_1 UU (X3 m) c
/-- and after region 1. -/
theorem V4_eq (c : Dev nD) : V4 m (outs m) c = X4 m c := by
  have e0 : outs m 4 main_v9_0 c = (dat1 (U := UU) (X3 m) c).arrAt 16 cfg1.N := (if_neg (by decide)).trans (X4_0 m c)
  have e1 : outs m 4 main_v9_1 c = (dat1 (U := UU) (X3 m) c).arrAt 17 cfg1.N := (if_neg (by decide)).trans (X4_1 m c)
  unfold V4 X4 after1
  rw [e0, e1, V3_eq]

/-- The proof data of the two regions. -/
abbrev pdats : (p : Fin 2) → (c : Dev nD) → Dat τ (Elt F) Unit ℕ UU ℕ (cfgs p) c := pdatsAt UU (V1 m) (X3 m)

set_option maxHeartbeats 4000000 in
set_option backward.isDefEq.respectTransparency.types false in
/-- Region 0, entered with every buffer at its valuation, left with its results' buffers updated. -/
def reg0 (hsc : ScoreFill F) : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := body_obligation0 (V1 m) hsc c
  hwaits := Pipeline.hwaits_of_owed_zero _ _ _ _ L₀ lv₀ 0 fun _ _ => rfl
  pre := bufsAt UU (V1 m)
  post := bufsAt UU (X2 m)
  X _ := BI.emp
  Y _ := BI.emp
  Z c := Pipeline.unscopedRest (Ix := Unit) (Name := ℕ) (U := UU) (Lvl := ℕ) spec0 c (fun b => V1 m c b)
  hentry c := by
    iintro ⟨H, -, -⟩
    iapply (entry0 UU (V1 m) (X3 m) c) $$ H
  hin c := by
    rw [show (pdats m 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    iintro H
    imodintro
    iapply (exit0 UU (V1 m) (X3 m) c ((pdats m 0 c).arrAt · cfg0.N) fun _ _ => rfl) $$ H

/-- Region 1, entered with every buffer at its valuation, left with its results' buffers updated. -/
def reg1 : Pipeline.RegionSeg (pcfgs (F := F)) adm (pdats m) () defs₀ Variants.none L₀ lv₀ 1 := reg1At UU (V1 m) (X3 m)

end Cert.KernelIdeal.Value

end
-- ==== Proof.Ideal.Run.lean ====
module

public import proofs.«01_k».proof.Proof.Ideal.Regs

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
open Idealize.ShloMosaic.Rounds
local notation "𝕄" => MT nD τ sig Unit (Elt F) ℕ UU ℕ

variable (m : (ℓ : Loc nD τ sig) → Buf (Elt F) ℓ) (ρ : Dev nD → PrngReg)

/-- What the two regions are entered with and left with. -/
theorem reg0_pre (hsc : ScoreFill F) (c : Dev nD) : (reg0 m hsc).pre c = iprop(StableHlo.held (c : Thread nD τ) (Pipeline.ucRefs τ sig) (V1 m c) ∗ Erest (F := F) 0 c) :=
  congrArg (fun X => iprop(X ∗ Erest (F := F) 0 c)) (Pipeline.unscopedBufs_held (Ix := Unit) (Name := ℕ) (U := UU) (Lvl := ℕ) c (V1 m c))
theorem reg0_post (hsc : ScoreFill F) (c : Dev nD) : (reg0 m hsc).post c = iprop(StableHlo.held (c : Thread nD τ) (Pipeline.ucRefs τ sig) (X2 m c) ∗ Erest (F := F) 1 c) :=
  congrArg (fun X => iprop(X ∗ Erest (F := F) 0 c)) (Pipeline.unscopedBufs_held (Ix := Unit) (Name := ℕ) (U := UU) (Lvl := ℕ) c (X2 m c))
theorem reg1_pre (c : Dev nD) : (reg1 m).pre c = iprop(StableHlo.held (c : Thread nD τ) (Pipeline.ucRefs τ sig) (X3 m c) ∗ Erest (F := F) 1 c) :=
  congrArg (fun X => iprop(X ∗ Erest (F := F) 0 c)) (Pipeline.unscopedBufs_held (Ix := Unit) (Name := ℕ) (U := UU) (Lvl := ℕ) c (X3 m c))
theorem reg1_post (c : Dev nD) : (reg1 m).post c = iprop(StableHlo.held (c : Thread nD τ) (Pipeline.ucRefs τ sig) (X4 m c) ∗ Erest (F := F) 2 c) :=
  congrArg (fun X => iprop(X ∗ Erest (F := F) 0 c)) (Pipeline.unscopedBufs_held (Ix := Unit) (Name := ℕ) (U := UU) (Lvl := ℕ) c (X4 m c))

/-- Every weakly fair execution of the program ends, with the results at the last valuation, the arguments as launched and every counter at zero. -/
theorem run_main (hsc : ScoreFill F) : θ_run defs (onTc (τ := τ) (main (F := F))) ⟨m, fun _ => 0, ρ⟩ (fun r => (∀ c : Dev nD, r.2.mem ((c.tc : Thread nD τ).loc main_v9_1) = V5 m (outs m) c main_v9_1 ∧ r.2.mem ((c.tc : Thread nD τ).loc main_v1_0) = V5 m (outs m) c main_v1_0 ∧ r.2.mem ((c.tc : Thread nD τ).loc main_v9_0) = V5 m (outs m) c main_v9_0 ∧ r.2.mem ((c.tc : Thread nD τ).loc main_v11) = V5 m (outs m) c main_v11 ∧ r.2.mem ((c.tc : Thread nD τ).loc main_v12) = V5 m (outs m) c main_v12 ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12)) ∧ r.2.sem = fun _ => 0) := by
  refine run_of m ρ (outs m) (pdats m) (reg0 m hsc) (fun c => ?_) (fun c => ?_) (reg1 m) (fun c => ?_) (fun c => ?_)
  · rw [reg0_pre]
  · rw [reg0_post, V2_eq]
  · rw [reg1_pre, V3_eq]
  · rw [reg1_post, V4_eq]

end Cert.KernelIdeal.Value

end
-- ==== Proof.Ideal.Score.lean ====
module

public import proofs.«01_k».proof.Proof.Ideal.Region0
public import Idealize.ShloMosaic.Lib.Pointwise

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
variable {U : Type} [URA U]

local notation "𝕄" => MT nD τ sig Unit (Elt F) ℕ U ℕ

/-- At the ideal instance a score is a sum over its own row, and the rows the mask keeps lie inside the features. -/
theorem scoreFill_ideal : ScoreFill Ideal := by
  intro t d d' g X
  funext j
  unfold k0_pay2
  simp only [select]
  by_cases h : k0_pay1 (grid0.coords t) j = 1#1
  · have hv := (valid0 _ j).mp h
    rw [coord0] at hv
    rw [h, ValueIdx.select_one, ValueIdx.select_one]
    refine (Ideal.matmul_apply₁ dot_S2048x512_S512_S2048_1_0_0_n_n_n rfl rfl _ _ _ j).trans (Eq.trans ?_ (Ideal.matmul_apply₁ dot_S2048x512_S512_S2048_1_0_0_n_n_n rfl rfl _ _ _ j).symm)
    refine congrArg _ (Finset.sum_congr rfl fun k _ => congrArg (· * _) ?_)
    refine (shapeCast_apply _ _ _ (ValueIdx.ix1 ⟨(j 0).val * 512 + k.val, ?_⟩) ?_).trans (((fill_of_moved win0_0 _ d d' g _ (moved0_0 t _ ?_))).trans (shapeCast_apply _ _ _ _ ?_).symm)
    · have hk := k.isLt
      have hj : (j 0).val < 2048 := (j 0).isLt
      show _ < 1048576
      change k.val < 512 at hk
      omega
    · rw [Shape.rowMajor_val_one, Shape.rowMajor_val_two]; rfl
    · have hk : k.val < 512 := k.isLt
      show t.val * 1048576 + ((j 0).val * 512 + k.val) < 10240000
      omega
    · rw [Shape.rowMajor_val_one, Shape.rowMajor_val_two]; rfl
  · rw [BitVec.eq_zero_or_eq_one (k0_pay1 (grid0.coords t) j) |>.resolve_right h]
    exact (ValueIdx.select_zero _ _).trans (ValueIdx.select_zero _ _).symm

end Cert.KernelIdeal.Value

end
-- ==== Proof.Ideal.Arrays.lean ====
module

public import proofs.«01_k».proof.Proof.Ideal.Region1
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
variable {U : Type} [URA U]

local notation "𝕄" => MT nD τ sig Unit (Elt F) ℕ U ℕ

variable (V : Dev nD → Valuation τ sig (Elt F))

/-- The new features: the old ones with the feature behind them. -/
def fsNew (fs : S10240000.Idx → Elt F .f32) (f : S512.Idx → Elt F .f32) : S10240512.Idx → Elt F .f32 := fun i =>
  if h : (i 0).val < 10240000 then fs (ValueIdx.ix1 ⟨(i 0).val, h⟩)
  else f (ValueIdx.ix1 ⟨(i 0).val - 10240000, by have h0 : (i 0).val < 10240512 := (i 0).isLt; omega⟩)

/-- Where each block lies. -/
theorem index0_0 : ∀ t : Fin grid0.N, win0_0.index t 0 = t.val := by decide +kernel
theorem index0_1 : ∀ t : Fin grid0.N, win0_1.index t 0 = 0 := by decide +kernel
theorem index0_3 : ∀ t : Fin grid0.N, win0_3.index t 0 = t.val := by decide +kernel
theorem index1_1 : ∀ t : Fin grid1.N, win1_1.index t 0 = t.val ∧ win1_1.index t 1 = 0 ∧ win1_1.index t 2 = 0 := by decide +kernel
theorem index1_16 : ∀ t : Fin grid1.N, win1_16.index t 0 = t.val ∧ win1_16.index t 1 = 0 ∧ win1_16.index t 2 = 0 := by decide +kernel
theorem index1_6 : ∀ t : Fin grid1.N, win1_6.index t 0 = 0 := by decide +kernel
theorem index1_7 : ∀ t : Fin grid1.N, win1_7.index t 0 = 0 ∧ win1_7.index t 1 = 0 := by decide +kernel
theorem index1_8 : ∀ t : Fin grid1.N, win1_8.index t 0 = 0 ∧ win1_8.index t 1 = 0 := by decide +kernel
theorem index1_9 : ∀ t : Fin grid1.N, win1_9.index t 0 = 0 := by decide +kernel
theorem index1_10 : ∀ t : Fin grid1.N, win1_10.index t 0 = 0 := by decide +kernel

/-- Where the features' block lies inside the array it is the array's. -/
theorem fsIn_apply (c : Dev nD) (t : Fin cfg0.N) (j : S1048576.Idx) (h : t.val * 1048576 + (j 0).val < 10240000) :
    fsIn V c t j = V c main_arg3 (ValueIdx.ix1 ⟨t.val * 1048576 + (j 0).val, h⟩ : S10240000.Idx) := by
  unfold fsIn Window.fill
  rw [dif_pos (moved0_0 t j h), View.read_apply]
  refine congrArg (V c main_arg3) (funext fun a => Fin.ext ?_)
  match a with
  | ⟨0, _⟩ =>
    show ((win0_0.blk t).view.emb _ 0).val = t.val * 1048576 + (j 0).val
    blk_simp
    exact congrArg (· * 1048576 + (j 0).val) (index0_0 t)

theorem ftIn_eq (c : Dev nD) (t : Fin cfg0.N) : ftIn V c t = V c main_arg0 := by
  unfold ftIn
  funext j
  rw [View.read_apply]
  refine congrArg (V c main_arg0) (funext fun a => Fin.ext ?_)
  match a with
  | ⟨0, _⟩ =>
    show ((win0_1.blk t).view.emb _ 0).val = (j 0).val
    blk_simp
    have h := index0_1 t
    omega

/-- Region 0 leaves the new features in its first result. -/
theorem arr0_3 (c : Dev nD) : (dat0 (U := U) V c).arrAt 3 cfg0.N = fsNew (V c main_arg3) (V c main_arg0) := by
  refine (dat0 (U := U) V c).arrAt_eq_of_covers 3 _ (by decide +kernel) fun t hf y => ?_
  have ht : t.val < 10 := lt_of_lt_of_eq t.isLt N_0
  have hv : ((win0_3.blk t).view.emb y 0).val = t.val * 1048576 + (y 0).val := by
    blk_simp
    exact congrArg (· * 1048576 + (y 0).val) (index0_3 t)
  have hy : (y 0).val < min 1048576 (10240512 - t.val * 1048576) := lt_of_lt_of_eq (y 0).isLt (xsize0_3 t)
  have hy2 := lt_min_iff.mp hy
  show fsBlk (grid0.coords t) (fsIn V c t) (ftIn V c t) (win0_3.xinj (grid0.coords t) y) = fsNew (V c main_arg3) (V c main_arg0) ((win0_3.blk t).view.emb y)
  have hx : (win0_3.xinj (grid0.coords t) y 0).val = (y 0).val := rfl
  generalize win0_3.xinj (grid0.coords t) y = z at hx
  generalize (win0_3.blk t).view.emb y = i at hv
  generalize (y 0).val = n at hx hv hy2
  have old : t.val * 1048576 + n < 10240000 → fsIn V c t z = fsNew (V c main_arg3) (V c main_arg0) i := fun h => by
    rw [fsIn_apply V c t z (by rw [hx]; exact h)]
    unfold fsNew
    rw [dif_pos (by rw [hv]; exact h)]
    refine congrArg (V c main_arg3) (funext fun a => Fin.ext ?_)
    match a with
    | ⟨0, _⟩ => show t.val * 1048576 + (z 0).val = (i 0).val; rw [hx, hv]
  unfold fsBlk
  split
  · rename_i hi
    have h9 := (tail0_iff t).mp hi
    unfold VecWindow.put
    by_cases hs : ∀ a, ![802816] a ≤ (z a).val ∧ (z a).val < ![802816] a + S512.size a
    · rw [dif_pos hs, ftIn_eq]
      have h0 : 802816 ≤ (z 0).val := (hs 0).1
      unfold fsNew
      rw [dif_neg (by rw [hv]; omega)]
      refine congrArg (V c main_arg0) (funext fun a => Fin.ext ?_)
      match a with
      | ⟨0, _⟩ => show (z 0).val - 802816 = (i 0).val - 10240000; omega
    · rw [dif_neg hs]
      refine old ?_
      by_contra hc
      apply hs
      intro a
      match a with
      | ⟨0, _⟩ =>
      show 802816 ≤ (z 0).val ∧ (z 0).val < 802816 + 512
      omega
  · rename_i hi
    have h9 := mt (tail0_iff t).mpr hi
    exact old (by omega)

end Cert.KernelIdeal.Value

end
-- ==== Proof.Ideal.States.lean ====
module

public import proofs.«01_k».proof.Proof.Ideal.Arrays

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
variable {U : Type} [URA U]

local notation "𝕄" => MT nD τ sig Unit (Elt F) ℕ U ℕ

variable (V : Dev nD → Valuation τ sig (Elt F))

/-- The new states: the old ones with `h` behind them. -/
def hsNew (hs : S20000x1x1024.Idx → Elt F .f32) (h : S1024.Idx → Elt F .f32) : S20001x1x1024.Idx → Elt F .f32 := fun i =>
  if hi : (i 0).val < 20000 then hs (ValueIdx.ix3 ⟨(i 0).val, hi⟩ (i 1) (i 2)) else h (ValueIdx.ix1 (i 2))

/-- Where the states' block lies inside the array it is the array's. -/
theorem hsIn_apply (c : Dev nD) (t : Fin cfg1.N) (j : S1024x1x1024.Idx) (h : t.val * 1024 + (j 0).val < 20000) :
    hsIn V c t j = V c main_arg4 (ValueIdx.ix3 ⟨t.val * 1024 + (j 0).val, h⟩ (j 1) (j 2) : S20000x1x1024.Idx) := by
  unfold hsIn Window.fill
  rw [dif_pos (moved1_1 t j h), View.read_apply]
  refine congrArg (V c main_arg4) (funext fun a => Fin.ext ?_)
  match a with
  | ⟨0, _⟩ =>
    show ((win1_1.blk t).view.emb _ 0).val = t.val * 1024 + (j 0).val
    blk_simp
    exact congrArg (· * 1024 + (j 0).val) (index1_1 t).1
  | ⟨1, _⟩ =>
    show ((win1_1.blk t).view.emb _ 1).val = (j 1).val
    blk_simp
    have h := (index1_1 t).2.1
    have h1 : (j 1).val < 1 := (j 1).isLt
    omega
  | ⟨2, _⟩ =>
    show ((win1_1.blk t).view.emb _ 2).val = (j 2).val
    blk_simp
    have h := (index1_1 t).2.2
    show win1_1.index t 2 * 1024 + (j 2).val = (j 2).val
    omega

theorem pay5_eq (X : S1024x1x1024.Idx → Elt F .f32) : k1_pay5 X = X := by
  unfold k1_pay5 k1_pay1
  funext z
  refine (shapeCast_apply _ _ z (ValueIdx.ix2 (z 0) (z 2) : S1024x1024.Idx) ?_).trans ((pay1_apply X _).trans (congrArg X (funext fun a => Fin.ext ?_)))
  · have h1 : (z 1).val < 1 := (z 1).isLt
    rw [Shape.rowMajor_val_two, Shape.rowMajor_val_three]
    show (z 0).val * 1024 + (z 2).val = ((z 0).val * 1 + (z 1).val) * 1024 + (z 2).val
    omega
  · have h1 : (z 1).val < 1 := (z 1).isLt
    match a with
    | ⟨0, _⟩ => rfl
    | ⟨1, _⟩ => show 0 = (z 1).val; omega
    | ⟨2, _⟩ => rfl

theorem in1_6_eq (c : Dev nD) (t : Fin cfg1.N) : in1_6 V c t = V c main_v2 := by
  unfold in1_6
  funext j
  rw [View.read_apply]
  refine congrArg (V c main_v2) (funext fun a => Fin.ext ?_)
  match a with
  | ⟨0, _⟩ =>
    show ((win1_6.blk t).view.emb _ 0).val = (j 0).val
    blk_simp
    have h := index1_6 t
    omega

theorem in1_9_eq (c : Dev nD) (t : Fin cfg1.N) : in1_9 V c t = V c main_arg9 := by
  unfold in1_9
  funext j
  rw [View.read_apply]
  refine congrArg (V c main_arg9) (funext fun a => Fin.ext ?_)
  match a with
  | ⟨0, _⟩ =>
    show ((win1_9.blk t).view.emb _ 0).val = (j 0).val
    blk_simp
    have h := index1_9 t
    omega

theorem in1_10_eq (c : Dev nD) (t : Fin cfg1.N) : in1_10 V c t = V c main_arg10 := by
  unfold in1_10
  funext j
  rw [View.read_apply]
  refine congrArg (V c main_arg10) (funext fun a => Fin.ext ?_)
  match a with
  | ⟨0, _⟩ =>
    show ((win1_10.blk t).view.emb _ 0).val = (j 0).val
    blk_simp
    have h := index1_10 t
    omega

theorem in1_7_eq (c : Dev nD) (t : Fin cfg1.N) : in1_7 V c t = V c main_arg7 := by
  unfold in1_7
  funext j
  rw [View.read_apply]
  refine congrArg (V c main_arg7) (funext fun a => Fin.ext ?_)
  match a with
  | ⟨0, _⟩ =>
    show ((win1_7.blk t).view.emb _ 0).val = (j 0).val
    blk_simp
    have h := (index1_7 t).1
    omega
  | ⟨1, _⟩ =>
    show ((win1_7.blk t).view.emb _ 1).val = (j 1).val
    blk_simp
    have h := (index1_7 t).2
    omega

theorem in1_8_eq (c : Dev nD) (t : Fin cfg1.N) : in1_8 V c t = V c main_arg8 := by
  unfold in1_8
  funext j
  rw [View.read_apply]
  refine congrArg (V c main_arg8) (funext fun a => Fin.ext ?_)
  match a with
  | ⟨0, _⟩ =>
    show ((win1_8.blk t).view.emb _ 0).val = (j 0).val
    blk_simp
    have h := (index1_8 t).1
    omega
  | ⟨1, _⟩ =>
    show ((win1_8.blk t).view.emb _ 1).val = (j 1).val
    blk_simp
    have h := (index1_8 t).2
    omega

/-- The last state as region 1 reads it. -/
theorem last_row (c : Dev nD) (t : Fin cfg1.N) (ht : t.val = 19) :
    k1_pay19 (k1_pay1 (hsIn V c t)) = fun i => V c main_arg4 (ValueIdx.ix3 ⟨19999, by decide⟩ ⟨0, by decide⟩ (i 0) : S20000x1x1024.Idx) := by
  funext i
  unfold k1_pay19
  refine (shapeCast_apply _ _ i (ValueIdx.ix2 ⟨0, by decide⟩ (i 0) : S1x1024.Idx) ?_).trans ?_
  · rw [Shape.rowMajor_val_two, Shape.rowMajor_val_one]
    show 0 * 1024 + (i 0).val = (i 0).val; omega
  refine (extractStridedSlice_apply _ _ _ _ (ValueIdx.ix2 ⟨543, by decide⟩ (i 0) : S1024x1024.Idx) (fun a => ?_)).trans ((pay1_apply _ _).trans ?_)
  · match a with
    | ⟨0, _⟩ => rfl
    | ⟨1, _⟩ => show (i 0).val = 0 + (i 0).val; omega
  · refine (hsIn_apply V c t _ (show t.val * 1024 + 543 < 20000 by omega)).trans (congrArg (V c main_arg4) (funext fun a => Fin.ext ?_))
    match a with
    | ⟨0, _⟩ => show t.val * 1024 + 543 = 19999; omega
    | ⟨1, _⟩ => rfl
    | ⟨2, _⟩ => rfl

/-- The recurrent unit's new state from the arrays. -/
def gru (h0 : S1024.Idx → Elt F .f32) (x : S1025.Idx → Elt F .f32) (Wih : S3072x1025.Idx → Elt F .f32) (Whh : S3072x1024.Idx → Elt F .f32) (bih bhh : S3072.Idx → Elt F .f32) : S1024.Idx → Elt F .f32 :=
  let gi := k1_pay20 x Wih bih
  let gh := addf (matmul dot_S3072x1024_S1024_S3072_1_0_0_n_n_n none Whh h0 (constant S3072 .f32 0x00000000#32)) bhh
  let z := logistic (addf (extractStridedSlice S1024 ![1024] gi slices_S3072_o1024_S1024) (extractStridedSlice S1024 ![1024] gh slices_S3072_o1024_S1024))
  let r := logistic (addf (extractStridedSlice S1024 ![0] gi slices_S3072_o0_S1024) (extractStridedSlice S1024 ![0] gh slices_S3072_o0_S1024))
  hNew h0 z (tanh (addf (extractStridedSlice S1024 ![2048] gi slices_S3072_o2048_S1024) (mulf r (extractStridedSlice S1024 ![2048] gh slices_S3072_o2048_S1024))))

/-- The last state. -/
def lastState (hs : S20000x1x1024.Idx → Elt F .f32) : S1024.Idx → Elt F .f32 := fun i => hs (ValueIdx.ix3 ⟨19999, by decide⟩ ⟨0, by decide⟩ (i 0))

/-- What region 1 leaves of a block inside its array, at the array's index. -/
theorem hsOut_apply (c : Dev nD) (t : Fin cfg1.N) (z : S1024x1x1024.Idx) (i : S20001x1x1024.Idx) (hi : (i 0).val = t.val * 1024 + (z 0).val) (h2 : (i 2).val = (z 2).val)
    (hin : t.val * 1024 + (z 0).val < 20001) :
    hsOut V c t z = hsNew (V c main_arg4) (gru (lastState (V c main_arg4)) (V c main_v2) (V c main_arg7) (V c main_arg8) (V c main_arg9) (V c main_arg10)) i := by
  have ht : t.val < 20 := lt_of_lt_of_eq t.isLt N_1
  have hz0 : (z 0).val < 1024 := (z 0).isLt
  have h1 : (z 1).val < 1 := (z 1).isLt
  have i1 : (i 1).val < 1 := (i 1).isLt
  have old : t.val * 1024 + (z 0).val < 20000 → ∀ h, hsIn V c t z = hsNew (V c main_arg4) h i := fun h _ => by
    rw [hsIn_apply V c t z h]
    unfold hsNew
    rw [dif_pos (by rw [hi]; exact h)]
    refine congrArg (V c main_arg4) (funext fun a => Fin.ext ?_)
    match a with
    | ⟨0, _⟩ => exact hi.symm
    | ⟨1, _⟩ => show (z 1).val = (i 1).val; omega
    | ⟨2, _⟩ => exact h2.symm
  unfold hsOut
  by_cases h19 : t.val = 19
  · rw [if_pos h19, hsLast_apply]
    by_cases hz : (z 0).val = 544
    · rw [if_pos hz]
      unfold hsNew
      rw [dif_neg (by rw [hi]; omega), in1_6_eq, in1_7_eq, in1_8_eq, in1_9_eq, in1_10_eq]
      unfold k1_pay22 k1_pay23 k1_pay21
      rw [last_row V c t h19]
      unfold gru lastState
      refine congrArg _ (funext fun a => Fin.ext ?_)
      match a with
      | ⟨0, _⟩ => exact h2.symm
    · rw [if_neg hz]
      exact old (by omega) _
  · rw [if_neg h19, pay5_eq]
    exact old (by omega) _

/-- Where window 16's block lies. -/
theorem emb1_16 (t : Fin grid1.N) (y : (win1_16.xblock (grid1.coords t)).Idx) :
    ((win1_16.blk t).view.emb y 0).val = t.val * 1024 + (y 0).val ∧ ((win1_16.blk t).view.emb y 2).val = (y 2).val := by
  constructor
  · exact (Window.rect_emb_val win1_16 t y 0).trans (congrArg (· * 1024 + (y 0).val) (index1_16 t).1)
  · refine (Window.rect_emb_val win1_16 t y 2).trans ((congrArg (· * 1024 + (y 2).val) (index1_16 t).2.2).trans ?_)
    show 0 * 1024 + (y 2).val = (y 2).val
    omega

/-- Region 1's new states cover their array. -/
theorem covers1_16 : win1_16.Covers := by decide +kernel

/-- Region 1 leaves the new states in its first result. -/
theorem arr1_16 (c : Dev nD) : (dat1 (U := U) V c).arrAt 16 cfg1.N
    = hsNew (V c main_arg4) (gru (lastState (V c main_arg4)) (V c main_v2) (V c main_arg7) (V c main_arg8) (V c main_arg9) (V c main_arg10)) :=
  (dat1 (U := U) V c).arrAt_eq_of_covers 16 _ covers1_16 (fun t _ y =>
    hsOut_apply V c t (win1_16.xinj (grid1.coords t) y) ((win1_16.blk t).view.emb y) (emb1_16 t y).1 (emb1_16 t y).2
      (by
        have hy : (y 0).val < min 1024 (20001 - t.val * 1024) := lt_of_lt_of_eq (y 0).isLt (xsize1_16 t)
        have hy2 := lt_min_iff.mp hy
        show t.val * 1024 + (y 0).val < 20001
        omega)) (Memref.isWhole_whole _)

end Cert.KernelIdeal.Value

end
-- ==== Proof.Ideal.Final.lean ====
module

public import proofs.«01_k».proof.Proof.Ideal.Run
public import proofs.«01_k».proof.Proof.Ideal.States

@[expose] public section

set_option maxRecDepth 16384

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
variable (m : (ℓ : Loc nD τ sig) → Buf (Elt F) ℓ)

/-- A buffer the program has not written when region 1 is entered holds what the launch found. -/
theorem X3_of (c : Dev nD) (r : Ref sig .tc) (h0 : r ∉ hostOps0_W) (h1 : r ∉ ([main_v1_0, main_v1_1, main_v1_2] : List (Ref sig .tc))) (h2 : r ∉ hostOps1_W) :
    X3 m c r = m ((c : Thread nD τ).loc r) :=
  (StableHlo.after_of_writes_sub hostOps1 _ hostOps1_writes h2).trans ((X2_of m c r h1).trans ((V1_of m c r h0).trans rfl))

/-- The recurrent unit's input: the feature, the vector `beta` and `father` one behind the other. -/
abbrev xIn (x0 x1 : S512.Idx → Elt F .f32) (x6 : S1.Idx → Elt F .f32) : S1025.Idx → Elt F .f32 :=
  concatenate S1025 0 [⟨S512, x0⟩, ⟨S512, x1⟩, ⟨S1, x6⟩] concatenates_S512_S512_S1_S1025_d0

theorem X3_v2 (c : Dev nD) : X3 m c main_v2 = xIn (m ((c : Thread nD τ).loc main_arg0)) (m ((c : Thread nD τ).loc main_arg1)) (m ((c : Thread nD τ).loc main_arg6)) := by
  have e : X3 m c main_v2 = xIn (X2 m c main_arg0) (X2 m c main_arg1) (X2 m c main_arg6) := by
    unfold X3
    generalize X2 m c = W
    after_results_simp <;> rfl
  rw [e, X2_of m c main_arg0 (by decide), X2_of m c main_arg1 (by decide), X2_of m c main_arg6 (by decide), V1_of m c main_arg0 (by decide),
    V1_of m c main_arg1 (by decide), V1_of m c main_arg6 (by decide)]

/-- The new features at the end, -/
theorem end_fs (c : Dev nD) : V5 m (outs m) c main_v1_0 = fsNew (m ((c : Thread nD τ).loc main_arg3)) (m ((c : Thread nD τ).loc main_arg0)) := by
  rw [V5_of m (outs m) c main_v1_0 (by decide), V4_of m (outs m) c main_v1_0 (by decide), V3_of m (outs m) c main_v1_0 (by decide), V2_eq, X2_0, arr0_3,
    V1_of m c main_arg3 (by decide), V1_of m c main_arg0 (by decide)]

/-- the new states, -/
theorem end_hs (c : Dev nD) : V5 m (outs m) c main_v9_0 = hsNew (m ((c : Thread nD τ).loc main_arg4))
    (gru (lastState (m ((c : Thread nD τ).loc main_arg4)))
      (xIn (m ((c : Thread nD τ).loc main_arg0)) (m ((c : Thread nD τ).loc main_arg1)) (m ((c : Thread nD τ).loc main_arg6)))
      (m ((c : Thread nD τ).loc main_arg7)) (m ((c : Thread nD τ).loc main_arg8)) (m ((c : Thread nD τ).loc main_arg9)) (m ((c : Thread nD τ).loc main_arg10))) := by
  rw [V5_of m (outs m) c main_v9_0 (by decide), V4_eq, X4_0, arr1_16, X3_v2, X3_of m c main_arg4 (by decide) (by decide) (by decide),
    X3_of m c main_arg7 (by decide) (by decide) (by decide), X3_of m c main_arg8 (by decide) (by decide) (by decide),
    X3_of m c main_arg9 (by decide) (by decide) (by decide), X3_of m c main_arg10 (by decide) (by decide) (by decide)]

/-- and the new times. -/
theorem end_ts (c : Dev nD) : V5 m (outs m) c main_v11 = concatenate S20001 0 [⟨S20000, m ((c : Thread nD τ).loc main_arg5)⟩,
    ⟨S1, shapeCast S1 (sitofp .f32 (m ((c : Thread nD τ).loc main_arg2)) : S_.Idx → Elt F .f32) shapeCasts_S_S1⟩] concatenates_S20000_S1_S20001_d0 := by
  have e : ∀ W : Valuation τ sig (Elt F), StableHlo.after hostOps2 W main_v11 = concatenate S20001 0 [⟨S20000, W main_arg5⟩,
      ⟨S1, shapeCast S1 (W main_v0 : S_.Idx → Elt F .f32) shapeCasts_S_S1⟩] concatenates_S20000_S1_S20001_d0 := fun W => by
    after_results_simp <;> rfl
  have e0 : V1 m c main_v0 = (sitofp .f32 (m ((c : Thread nD τ).loc main_arg2)) : S_.Idx → Elt F .f32) := by
    after_results_simp <;> rfl
  refine (e (V4 m (outs m) c)).trans ?_
  rw [V4_of m (outs m) c main_arg5 (by decide), V3_of m (outs m) c main_arg5 (by decide), V2_of m (outs m) c main_arg5 (by decide), V1_of m c main_arg5 (by decide),
    V4_of m (outs m) c main_v0 (by decide), V3_of m (outs m) c main_v0 (by decide), V2_of m (outs m) c main_v0 (by decide), e0]

end Cert.KernelIdeal.Value

end
-- ==== Proof.Ideal.Ref.lean ====
module

public import proofs.«01_k».proof.Proof.Ideal.Final
public import proofs.«01_k».proof.Proof.Gen.ReferenceIdeal.Read
public import Idealize.ShloMosaic.Lib.IdealHost

@[expose] public section

noncomputable section

namespace Cert.Proof

open Idealize.ShloMosaic Idealize.ShloMosaic.ValueIdx Cert.ReferenceIdeal.Read

/-- The reference's last state is the last row of the states. -/
theorem ref_last (x4 : Cert.KernelIdeal.S20000x1x1024.Idx → EReal) : val_main_v3 (F := Ideal) x4 = Cert.KernelIdeal.Value.lastState (F := Ideal) x4 := by
  funext i
  rw [val_main_v3_apply, val_main_v2_apply, val_main_v1_apply]
  have h0 : (i 0).val < 1024 := (i 0).isLt
  refine congrArg x4 (funext fun a => Fin.ext ?_)
  match a with
  | ⟨0, _⟩ => rfl
  | ⟨1, _⟩ => rfl
  | ⟨2, _⟩ => show (0 * 1024 + (i 0).val % 1024) % 1024 = (i 0).val; omega

/-- The host's spelled-out logistic function is the kernel's. -/
theorem logistic_eq (v : Cert.KernelIdeal.S1024.Idx → EReal) :
    Host.divf (F := Ideal) (φ := .f32) (val_main_v14 (F := Ideal)) (addf (F := Ideal) (φ := .f32) (val_main_v14 (F := Ideal)) (Host.exp (F := Ideal) (φ := .f32) (Host.negf (F := Ideal) (φ := .f32) v)))
      = logistic (F := Ideal) (φ := .f32) v := by
  have h1 : ∀ i, val_main_v14 (F := Ideal) i = (1 : EReal) := fun i => by
    rw [val_main_v14_apply, val_main_cst_apply]; exact Ideal.ofBits_one_f32
  funext i
  show Ideal.div (val_main_v14 (F := Ideal) i) (val_main_v14 (F := Ideal) i + Ideal.exp (-(v i))) = Ideal.div 1 (1 + Ideal.exp (-(v i)))
  rw [h1]

/-- The reference's gates' inputs are the kernel's. -/
theorem ref_gi (x0 x1 : Cert.KernelIdeal.S512.Idx → EReal) (x6 : Cert.KernelIdeal.S1.Idx → EReal) (x7 : Cert.KernelIdeal.S3072x1025.Idx → EReal) (x9 : Cert.KernelIdeal.S3072.Idx → EReal) :
    val_main_v6 (F := Ideal) x0 x1 x6 x7 x9 = Cert.KernelIdeal.Gen.k1_pay20 (F := Ideal) (Cert.KernelIdeal.Value.xIn (F := Ideal) x0 x1 x6) x7 x9 := by
  funext i
  unfold Cert.KernelIdeal.Gen.k1_pay20
  rw [shapeCast_self]
  refine congrArg (· + x9 i) ?_
  exact (Ideal.dotGeneral_apply _ _ _ _ _ i).trans (Ideal.matmul_constant_zero_apply Cert.KernelIdeal.dot_S3072x1025_S1025_S3072_1_0_0_n_n_n none x7 (Cert.KernelIdeal.Value.xIn (F := Ideal) x0 x1 x6) i).symm
theorem ref_gh (x4 : Cert.KernelIdeal.S20000x1x1024.Idx → EReal) (x8 : Cert.KernelIdeal.S3072x1024.Idx → EReal) (x10 : Cert.KernelIdeal.S3072.Idx → EReal) :
    val_main_v8 (F := Ideal) x4 x8 x10 = addf (F := Ideal) (φ := .f32) (matmul (F := Ideal) (φ₁ := .f32) (φ₂ := .f32) Cert.KernelIdeal.dot_S3072x1024_S1024_S3072_1_0_0_n_n_n none x8 (Cert.KernelIdeal.Value.lastState (F := Ideal) x4) (constant Cert.KernelIdeal.S3072 .f32 0x00000000#32)) x10 := by
  funext i
  refine congrArg (· + x10 i) ?_
  unfold val_main_v7
  rw [ref_last]
  exact (Ideal.dotGeneral_apply _ _ _ _ _ i).trans (Ideal.matmul_constant_zero_apply Cert.KernelIdeal.dot_S3072x1024_S1024_S3072_1_0_0_n_n_n none x8 (Cert.KernelIdeal.Value.lastState (F := Ideal) x4) i).symm

/-- The reference's recurrent step is the kernel's. -/
theorem ref_gru (x0 x1 : Cert.KernelIdeal.S512.Idx → EReal) (x4 : Cert.KernelIdeal.S20000x1x1024.Idx → EReal) (x6 : Cert.KernelIdeal.S1.Idx → EReal)
    (x7 : Cert.KernelIdeal.S3072x1025.Idx → EReal) (x8 : Cert.KernelIdeal.S3072x1024.Idx → EReal) (x9 x10 : Cert.KernelIdeal.S3072.Idx → EReal) :
    val_main_v36 (F := Ideal) x0 x1 x4 x6 x7 x8 x9 x10
      = Cert.KernelIdeal.Value.gru (F := Ideal) (Cert.KernelIdeal.Value.lastState (F := Ideal) x4) (Cert.KernelIdeal.Value.xIn (F := Ideal) x0 x1 x6) x7 x8 x9 x10 := by
  have hr : val_main_v17 (F := Ideal) x0 x1 x4 x6 x7 x8 x9 x10 = logistic (F := Ideal) (φ := .f32) (val_main_v11 (F := Ideal) x0 x1 x4 x6 x7 x8 x9 x10) := logistic_eq _
  have hz : val_main_v26 (F := Ideal) x0 x1 x4 x6 x7 x8 x9 x10 = logistic (F := Ideal) (φ := .f32) (val_main_v20 (F := Ideal) x0 x1 x4 x6 x7 x8 x9 x10) := logistic_eq _
  have h1 : val_main_v32 (F := Ideal) = Cert.KernelIdeal.Gen.k1_pay24 (F := Ideal) := funext fun i => (val_main_v32_apply i).trans rfl
  unfold val_main_v36 val_main_v34 val_main_v35 val_main_v33
  rw [hz, h1]
  unfold val_main_v31 val_main_v30 val_main_v29
  rw [hr]
  unfold val_main_v20 val_main_v11 val_main_v9 val_main_v10 val_main_v18 val_main_v19 val_main_v27 val_main_v28
  rw [ref_gi, ref_gh, ref_last]
  rfl

/-- The reference's new features are the kernel's. -/
theorem ref_fs (x0 : Cert.KernelIdeal.S512.Idx → EReal) (x3 : Cert.KernelIdeal.S10240000.Idx → EReal) :
    val_main_v37 (F := Ideal) x0 x3 = Cert.KernelIdeal.Value.fsNew (F := Ideal) x3 x0 := by
  funext i
  have h0 : (i 0).val < 10240512 := (i 0).isLt
  unfold val_main_v37 Cert.KernelIdeal.Value.fsNew
  by_cases h : (i 0).val < 10240000
  · rw [dif_pos h]
    exact concatenate_pair_apply_left (0 : Fin 1) x3 x0 _ i rfl (ValueIdx.ix1 ⟨(i 0).val, h⟩) fun b => match b with | ⟨0, _⟩ => rfl
  · rw [dif_neg h]
    exact concatenate_pair_apply_right (0 : Fin 1) x3 x0 _ i rfl rfl (ValueIdx.ix1 ⟨(i 0).val - 10240000, by omega⟩)
      (fun b hb => match b, hb with | ⟨0, _⟩, hb => absurd rfl hb) (by show (i 0).val - 10240000 + 10240000 = (i 0).val; omega)

/-- The reference's new states are the kernel's. -/
theorem ref_hs (x0 x1 : Cert.KernelIdeal.S512.Idx → EReal) (x4 : Cert.KernelIdeal.S20000x1x1024.Idx → EReal) (x6 : Cert.KernelIdeal.S1.Idx → EReal)
    (x7 : Cert.KernelIdeal.S3072x1025.Idx → EReal) (x8 : Cert.KernelIdeal.S3072x1024.Idx → EReal) (x9 x10 : Cert.KernelIdeal.S3072.Idx → EReal) :
    val_main_v39 (F := Ideal) x0 x1 x4 x6 x7 x8 x9 x10
      = Cert.KernelIdeal.Value.hsNew (F := Ideal) x4 (Cert.KernelIdeal.Value.gru (F := Ideal) (Cert.KernelIdeal.Value.lastState (F := Ideal) x4) (Cert.KernelIdeal.Value.xIn (F := Ideal) x0 x1 x6) x7 x8 x9 x10) := by
  funext i
  have h0 : (i 0).val < 20001 := (i 0).isLt
  have h1 : (i 1).val < 1 := (i 1).isLt
  rw [← ref_gru]
  unfold val_main_v39 Cert.KernelIdeal.Value.hsNew
  by_cases h : (i 0).val < 20000
  · rw [dif_pos h]
    exact concatenate_pair_apply_left (0 : Fin 3) x4 _ _ i rfl (ValueIdx.ix3 ⟨(i 0).val, h⟩ (i 1) (i 2)) fun b => match b with | ⟨0, _⟩ => rfl | ⟨1, _⟩ => rfl | ⟨2, _⟩ => rfl
  · rw [dif_neg h]
    refine (concatenate_pair_apply_right (s₁ := Cert.ReferenceIdeal.S20000x1x1024) (s₂ := Cert.ReferenceIdeal.S1x1x1024) (0 : Fin 3) x4
      (val_main_v38 (F := Ideal) x0 x1 x4 x6 x7 x8 x9 x10) _ i rfl rfl (ValueIdx.ix3 ⟨(i 0).val - 20000, by omega⟩ (i 1) (i 2))
      (fun b hb => match b, hb with | ⟨0, _⟩, hb => absurd rfl hb | ⟨1, _⟩, _ => rfl | ⟨2, _⟩, _ => rfl)
      (by show (i 0).val - 20000 + 20000 = (i 0).val; omega)).trans ?_
    rw [val_main_v38_apply]
    refine congrArg _ (funext fun a => Fin.ext ?_)
    match a with
    | ⟨0, _⟩ =>
      show (((i 0).val - 20000) * 1 + (i 1).val) * 1024 + (i 2).val = (i 2).val
      omega

/-- The reference's new times are the kernel's. -/
theorem ref_ts (x2 : Cert.KernelIdeal.S_.Idx → BitVec 32) (x5 : Cert.KernelIdeal.S20000.Idx → EReal) :
    val_main_v41 (F := Ideal) x2 x5 = concatenate Cert.KernelIdeal.S20001 0 [⟨Cert.KernelIdeal.S20000, x5⟩,
      ⟨Cert.KernelIdeal.S1, shapeCast Cert.KernelIdeal.S1 (sitofp (F := Ideal) .f32 x2) Cert.KernelIdeal.Gen.shapeCasts_S_S1⟩] Cert.KernelIdeal.Gen.concatenates_S20000_S1_S20001_d0 := by
  have e : val_main_v40 (F := Ideal) x2 = shapeCast Cert.KernelIdeal.S1 (sitofp (F := Ideal) .f32 x2) Cert.KernelIdeal.Gen.shapeCasts_S_S1 := by
    funext i
    rw [val_main_v40_apply]
    refine (shapeCast_apply _ _ i (idx_main_v40 i) ?_).symm
    have h0 : (i 0).val < 1 := (i 0).isLt
    rw [Shape.rowMajor_val_one]
    show 0 = (i 0).val
    omega
  unfold val_main_v41
  rw [e]

end Cert.Proof

end
-- ==== Proof.Ideal.Scores.lean ====
module

public import proofs.«01_k».proof.Proof.Ideal.Final
public import proofs.«01_k».proof.Proof.Ideal.Score
public import proofs.«01_k».proof.Proof.Gen.ReferenceIdeal.Read
public import Idealize.ShloMosaic.Lib.IdealHost

@[expose] public section

set_option maxRecDepth 16384

noncomputable section

/-! The scores at the ideal numbers: each row of the old features times the feature. -/

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open Idealize.ShloMosaic.ValueIdx
open Idealize.ShloMosaic.Pipeline (Dat Cfg Window Grid)

variable {U : Type} [URA U]

/-- The score of row `r`. -/
def score (fs : S10240000.Idx → EReal) (f : S512.Idx → EReal) (r : Fin 20000) : EReal :=
  ∑ k : Fin 512, fs (ValueIdx.ix1 ⟨r.val * 512 + k.val, by have := r.isLt; have := k.isLt; omega⟩) * f (ValueIdx.ix1 k)

/-- The scores' buffer: the scores, and the mask's constant behind them. -/
def scoresPad (fs : S10240000.Idx → EReal) (f : S512.Idx → EReal) : S20480.Idx → EReal := fun i =>
  if h : (i 0).val < 20000 then score fs f ⟨(i 0).val, h⟩ else Scalar.ofBits (F := Ideal) .f32 0xF149F2CA#32

/-- The block of the scores a point leaves in the scores' buffer is the point's. -/
theorem index0_4 : ∀ t : Fin grid0.N, win0_4.index t 0 = t.val := by decide +kernel

variable (V : Dev nD → Valuation τ sig (Elt Ideal))

/-- A point's scores: of its rows where they are rows of the features, else the mask's constant. -/
theorem pay2_apply (c : Dev nD) (t : Fin cfg0.N) (j : S2048.Idx) (i : S20480.Idx) (hi : (i 0).val = t.val * 2048 + (j 0).val) :
    k0_pay2 (F := Ideal) (grid0.coords t) (fsIn V c t) (ftIn V c t) j = scoresPad (V c main_arg3) (V c main_arg0) i := by
  unfold k0_pay2 scoresPad
  simp only [select]
  by_cases h : k0_pay1 (grid0.coords t) j = 1#1
  · have hv := (valid0 _ j).mp h
    rw [coord0] at hv
    have hj : (j 0).val < 2048 := (j 0).isLt
    rw [h, ValueIdx.select_one, dif_pos (by omega)]
    refine (Ideal.matmul_apply₁_of dot_S2048x512_S512_S2048_1_0_0_n_n_n rfl rfl _ _ _ j (fun k => ValueIdx.ix2 (j 0) k) (fun k => ValueIdx.ix1 k) (fun k => ?_) (fun k => ?_)).trans ?_
    · funext a
      match a with
      | ⟨0, _⟩ => rfl
      | ⟨1, _⟩ => rfl
    · funext a
      match a with
      | ⟨0, _⟩ => rfl
    refine (congrArg₂ (· + ·) Ideal.ofBits_zero_f32 rfl).trans ((zero_add _).trans ?_)
    unfold score
    refine Finset.sum_congr rfl fun k _ => ?_
    have hk : k.val < 512 := k.isLt
    rw [ftIn_eq]
    refine congrArg (· * _) ?_
    refine (shapeCast_apply _ _ _ (ValueIdx.ix1 ⟨(j 0).val * 512 + k.val, ?_⟩) ?_).trans ((fsIn_apply V c t _ ?_).trans (congrArg (V c main_arg3) (funext fun a => Fin.ext ?_)))
    · show _ < 1048576
      omega
    · rw [Shape.rowMajor_val_one, Shape.rowMajor_val_two]; rfl
    · show t.val * 1048576 + ((j 0).val * 512 + k.val) < 10240000
      omega
    · match a with
      | ⟨0, _⟩ =>
        show t.val * 1048576 + ((j 0).val * 512 + k.val) = (i 0).val * 512 + k.val
        omega
  · have hn := mt (valid0 _ j).mpr h
    rw [coord0] at hn
    rw [BitVec.eq_zero_or_eq_one (k0_pay1 (grid0.coords t) j) |>.resolve_right h, dif_neg (by omega)]
    exact ValueIdx.select_zero _ _

/-- Region 0 leaves the scores in its second result. -/
theorem arr0_4 (c : Dev nD) : (dat0 (F := Ideal) (U := U) V c).arrAt 4 cfg0.N = scoresPad (V c main_arg3) (V c main_arg0) := by
  refine (dat0 (F := Ideal) (U := U) V c).arrAt_eq_of_covers 4 _ (by decide +kernel) fun t hf y => ?_
  have hv : ((win0_4.blk t).view.emb y 0).val = t.val * 2048 + (y 0).val := by
    blk_simp
    exact congrArg (· * 2048 + (y 0).val) (index0_4 t)
  exact pay2_apply V c t (win0_4.xinj (grid0.coords t) y) ((win0_4.blk t).view.emb y) hv

variable (m : (ℓ : Loc nD τ sig) → Buf (Elt Ideal) ℓ)

/-- The scores at the end. -/
theorem end_scores (c : Dev nD) : V5 m (outs m) c main_v12 = fun i : S20000.Idx => score (m ((c : Thread nD τ).loc main_arg3)) (m ((c : Thread nD τ).loc main_arg0)) (i 0) := by
  have e : ∀ W : Valuation τ sig (Elt Ideal), StableHlo.after hostOps2 W main_v12 = extractStridedSlice S20000 ![0] (W main_v1_1 : S20480.Idx → EReal) slices_S20480_S20000_0 := fun W => by
    after_results_simp <;> rfl
  refine (e (V4 m (outs m) c)).trans ?_
  rw [V4_of m (outs m) c main_v1_1 (by decide), V3_of m (outs m) c main_v1_1 (by decide), V2_eq, X2_1, arr0_4, V1_of m c main_arg3 (by decide), V1_of m c main_arg0 (by decide)]
  funext i
  have hi : (i 0).val < 20000 := (i 0).isLt
  rw [extractStridedSlice_apply _ _ _ i (ValueIdx.ix1 ⟨(i 0).val, by omega⟩ : S20480.Idx) (fun a => match a with | ⟨0, _⟩ => (Nat.zero_add _).symm)]
  exact dif_pos hi

end Cert.KernelIdeal.Value

namespace Cert.Proof

open Idealize.ShloMosaic Idealize.ShloMosaic.ValueIdx Cert.ReferenceIdeal.Read

/-- The reference's scores are the same sums. -/
theorem ref_scores (x0 : Cert.KernelIdeal.S512.Idx → EReal) (x3 : Cert.KernelIdeal.S10240000.Idx → EReal) :
    val_main_v43 (F := Ideal) x0 x3 = fun i : Cert.KernelIdeal.S20000.Idx => Cert.KernelIdeal.Value.score x3 x0 (i 0) := by
  funext i
  rw [val_main_v43_apply]
  unfold Cert.KernelIdeal.Value.score
  refine Finset.sum_congr rfl fun k _ => ?_
  rw [val_main_v42_apply]
  refine congrArg₂ (· * ·) (congrArg x3 (funext fun a => ?_)) (congrArg x0 (funext fun a => ?_))
  · match a with
    | ⟨0, _⟩ => rfl
  · match a with
    | ⟨0, _⟩ => rfl

end Cert.Proof

end
-- ==== Proof.Bits.Forget.lean ====
module

public import proofs.«01_k».proof.Proof.Ideal.Regs
public import Idealize.ShloMosaic.Lib.Pipeline.RegionArraysF
public import Idealize.ShloMosaic.Lib.Pipeline.RegionsForgetLinks

@[expose] public section

set_option maxRecDepth 16384

noncomputable section

/-! Region 0 at any float instance. What a product reads beyond the features' end may there reach the scores, so nothing is said of
    them: their window is taken and left at some contents. -/

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf)

variable {F : FTy → Type} [FloatOps F]
variable (U : Type) [URA U] (V V' : Dev nD → Valuation τ sig (Elt F))

/-- The window nothing is said of: the scores'. -/
def fgt0 : Fin 6 → Bool := ![false, false, false, false, true, false]
/-- The windows nothing is said of, by region. -/
def fgts : (q : Fin 2) → Fin (cfgs q).W → Bool
  | ⟨0, _⟩ => fgt0
  | ⟨1, _⟩ => fun _ => false

/-- A window other than the scores' is kept. -/
theorem fgt0_of_ne (w : Fin 6) (h : w ≠ 4) : fgt0 w = false := by
  revert w; decide

set_option maxHeartbeats 1000000 in
/-- The body obligation of region 0, the scores' window at some contents. -/
theorem body_obligation0F (c : Dev nD) : BodyObligationLoose (dat0 (U := U) V c) (defs₀ (F := F)) Variants.none () Set.univ fgt0 := fun t => by
  rw [bigSep_W0, bigSep_W0]
  simp only [fgt0_of_ne 0 (by decide), fgt0_of_ne 1 (by decide), fgt0_of_ne 2 (by decide), fgt0_of_ne 3 (by decide), show fgt0 4 = true from rfl, fgt0_of_ne 5 (by decide)]
  rw [show (dat0 (U := U) V c).Φ t.succ = (dat0 (U := U) V c).Φ t.castSucc from rfl,
    show (dat0 (U := U) V c).owesAt () t.succ = (dat0 (U := U) V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0 V c t d0, before0_1 V c t d1, before0_2 V c t d2]
  iapply (body0 (F := F) c (grid0.coords t) (st0_0 t) (hstage0_0 _) (st0_1 t) (hstage0_1 _) (st0_2 t) (hstage0_2 _) (st0_3 t) (hstage0_3 _)
    (st0_4 t) (hstage0_4 _) (st0_5 t) (hstage0_5 _)
    (win0_0.fill (grid0.coords t) d0 ((win0_0.blk t).view.read (Elt F) (V c main_arg3))) (ftIn V c t)
    (win0_2.fill (grid0.coords t) d2 ((win0_2.blk t).view.read (Elt F) (V c main_arg5))) _ _ _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (fsIn V c t)))
    rw [show win0_0.cut (grid0.coords t) (fsIn V c t) = (win0_0.blk t).view.read (Elt F) (V c main_arg3) from win0_0.cut_fill _ _ _]
    try iexact H0
  isplitl [H1]; · iexact H1
  isplitl [H2]
  · iexists d2
    change _ ⊢ owns (c : Thread nD τ) (st0_2 t) fullShare (win0_2.fill (grid0.coords t) d2 (win0_2.cut (grid0.coords t) (tsIn V c t)))
    rw [show win0_2.cut (grid0.coords t) (tsIn V c t) = (win0_2.blk t).view.read (Elt F) (V c main_arg5) from win0_2.cut_fill _ _ _]
    try iexact H2
  isplitl [H3]
  · iexists (fsBlk (grid0.coords t) (win0_0.fill (grid0.coords t) d0 ((win0_0.blk t).view.read (Elt F) (V c main_arg3))) (ftIn V c t))
    exact Entails.of_eq (congrArg (fun X => owns (c : Thread nD τ) (stage0_3 (cfg0.slots t 3)) fullShare X)
      (win0_3.fill_congr_cut (grid0.coords t) (fsBlk_fill t d0 (fun _ => z32) _ (ftIn V c t))).symm)
  isplitl [H4]
  · iexists _; iexact H4
  · exact Entails.of_eq (congrArg (fun X => owns (c : Thread nD τ) (stage0_5 (cfg0.slots t 5)) fullShare X) (pay3_fill t d2 (fun _ => z32) _))

set_option maxHeartbeats 4000000 in
set_option backward.isDefEq.respectTransparency.types false in
/-- Region 0, entered with every buffer at its valuation, left with its results' buffers updated, the scores' at some contents. -/
def reg0F : Pipeline.RDat.RegionSeg (pcfgs (F := F)) adm (Pipeline.toRsF (pcfgs (F := F)) adm (pdatsAt U V V') fgts) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0F U V c).toRForget
  hwaits := Pipeline.RDat.hwaits_of_owed_zero _ _ _ _ L₀ lv₀ 0 fun _ _ => rfl
  pre := bufsAt U V
  post c := iprop(∃ x : S20480.Idx → Elt F .f32, bufsAt U (fun c => after0 U V c x) c)
  X _ := BI.emp
  Y _ := BI.emp
  Z c := Pipeline.unscopedRest (Ix := Unit) (Name := ℕ) (U := U) (Lvl := ℕ) spec0 c (fun b => V c b)
  hentry c := by
    show _ ⊢ |={Set.univ}=> iprop((pdatsAt U V V' 0 c).arrays ((pdatsAt U V V' 0 c).arrAt · 0)
      ∗ Pipeline.prefHeld (pcfgs (F := F) 0).pre c (fun _ => fullShare) (adm (F := F) 0).1 ∗ (pdatsAt U V V' 0 c).owesAt () 0 ∗ _ ∗ _)
    iintro ⟨H, -, -⟩
    iapply (entry0 U V V' c) $$ H
  hin c := by
    show _ ⊢ (pdatsAt U V V' 0 c).Φ 0
    rw [show (pdatsAt U V V' 0 c).Φ 0 = Pipeline.scopedRest (Ix := Unit) (Name := ℕ) (U := U) (Lvl := ℕ) (Val := Elt F) spec0 c from rfl]
    iintro ⟨-, -, Hr⟩; iexact Hr
  hout c := by
    show (pdatsAt U V V' 0 c).Φ (Fin.last _) ⊢ _
    rw [Pipeline.ownSems0_none, show (pdatsAt U V V' 0 c).Φ (Fin.last _) = Pipeline.scopedRest (Ix := Unit) (Name := ℕ) (U := U) (Lvl := ℕ) (Val := Elt F) spec0 c from rfl]
    iintro Hr
    isplitr; · iempintro
    isplitr; · iempintro
    iexact Hr
  hexit c := by
    have hopen := (pdatsAt U V V' 0 c).arraysAt_forget (fgts 0) cfg0.N
    show iprop(((pdatsAt U V V' 0 c).toRForget (fgts 0)).arraysAt cfg0.N ∗ (pdatsAt U V V' 0 c).owesAt () (Fin.last cfg0.N) ∗ _ ∗ _) ⊢ _
    iintro ⟨Ha, HO, HY, HZ⟩
    ihave H := hopen $$ Ha
    icases H with ⟨%A, %hA, Ha⟩
    imodintro
    iexists (A 4)
    iapply (exit0 U V V' c A fun w hw => hA w (fgt0_of_ne w hw))
    isplitl [Ha]; · iexact Ha
    isplitl [HO]; · iexact HO
    isplitl [HY]; · iexact HY
    iexact HZ

end Cert.KernelIdeal.Value

end
-- ==== Proof.Bits.Run.lean ====
module

public import proofs.«01_k».proof.Proof.Bits.Forget
public import Idealize.ShloMosaic.Lib.HostLoop.Plain
public import Idealize.ShloMosaic.Lib.HostLoop.Lifted

@[expose] public section

set_option maxRecDepth 16384

noncomputable section

/-! The program's run at any float instance: it ends with the arguments as launched. What the first region leaves in the scores, and
    so what follows from them, is only known to be something: between two items the buffers are held at SOME valuation that agrees
    with the launch's on the arguments. -/

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window Grid BodyObligation BodyObligationLoose cellOf CSeg)
open Idealize.ShloMosaic.Rounds

variable {F : FTy → Type} [FloatOps F]

/-- The resource algebra: the pipeline library's once per region, beside the counters. -/
abbrev UB : Type := IProdConst (Fin 2) (UR sig nD τ) × Counters

local notation "𝕄" => MT nD τ sig Unit (Elt F) ℕ UB ℕ

variable (m : (ℓ : Loc nD τ sig) → Buf (Elt F) ℓ) (ρ : Dev nD → PrngReg)

/-- A valuation of each device's buffers. -/
abbrev Vals (F : FTy → Type) : Type := Dev nD → Valuation τ sig (Elt F)

/-- The two regions' tickets: each its own copy of the library's algebra. -/
def tk (j : Fin 2) : Pipeline.Ticket (Ix := Unit) (Name := ℕ) (U := UB) (Lvl := ℕ) (nD := nD) (τ := τ) (pcfgs (F := F)) adm where
  p := j
  pdats := pdatsAt UB (V0 m) (V0 m)
  EP := embAt j

/-- The program's arguments. -/
def argRefs : List (Ref sig .tc) :=
  [main_arg0, main_arg1, main_arg2, main_arg3, main_arg4, main_arg5, main_arg6, main_arg7, main_arg8, main_arg9, main_arg10, main_arg11, main_arg12]

/-- The valuation `o` has the arguments as launched. -/
def Kept (o : Vals F) (c : Dev nD) : Prop := ∀ r ∈ argRefs, o c r = V0 m c r

/-- What rides along: the core owes nothing. -/
abbrev rest (c : Dev nD) : sProp 𝕄 := iprop(∃ W, owes (c : Thread nD τ) (0 : CellTallies nD τ sig Unit) W)
/-- The state between two items: the buffers at some valuation with the arguments as launched. -/
abbrev state (c : Dev nD) : sProp 𝕄 :=
  iprop(∃ o : Vals F, StableHlo.held (c : Thread nD τ) (Pipeline.ucRefs τ sig) (o c) ∗ ⌜Kept m o c⌝ ∗ rest c)

/-- A segment of the host's program. -/
abbrev HSeg : Type _ := CSeg (pcfgs (F := F)) adm defs₀ Variants.none L₀ lv₀ (fun l : Fin 0 => l.elim0) (tk m)

/-- A line of host operations from any valuation with the arguments as launched. -/
def opsSeg (ops : List (HloOp τ sig (Elt F))) (hS : ∀ op ∈ ops, op.bufs ⊆ Pipeline.ucRefs τ sig) (hf : ∀ op ∈ ops, op.fresh = ∅) : HSeg m :=
  CSeg.exSel (Kept m) (fun o => CSeg.ofOps _ _ _ _ _ _ _ _ (Pipeline.ucRefs τ sig) ops hS hf o (rest (F := F))) (StableHlo.seq ops) (fun _ => rfl) 0 (fun _ => le_rfl) ∅ fun _ => rfl

/-- A region's pre link: its buffers from the state. -/
theorem state_pre (c : Dev nD) (o : Vals F) :
    iprop(StableHlo.held (c : Thread nD τ) (Pipeline.ucRefs τ sig) (o c) ∗ rest c) ⊢ bufsAt UB o c := by
  unfold bufsAt
  rw [Pipeline.unscopedBufs_held (Ix := Unit) (Name := ℕ) (U := UB) (Lvl := ℕ) c (o c)]

/-- Back to the state from buffers at a valuation with the arguments as launched. -/
theorem state_post (c : Dev nD) (o : Vals F) (ho : Kept m o c) : bufsAt UB o c ⊢ state m c := by
  unfold bufsAt
  rw [Pipeline.unscopedBufs_held (Ix := Unit) (Name := ℕ) (U := UB) (Lvl := ℕ) c (o c)]
  exact Pipeline.held_ex_intro (c : Thread nD τ) (Pipeline.ucRefs τ sig) (fun o : Vals F => o c) (fun o => Kept m o c) (rest c) o (o c) (fun _ _ => rfl) ho

/-- A line of operations whose results are no argument keeps the arguments. -/
theorem Kept.after {o : Vals F} {c : Dev nD} (h : Kept m o c) (ops : List (HloOp τ sig (Elt F))) (W : List (Ref sig .tc))
    (hW : ops.Forall fun op => op.writes ⊆ (W.map (Proc.devRef (τ := τ) .tc)).toFinset) (hd : ∀ r ∈ argRefs, r ∉ W) :
    Kept m (fun c => StableHlo.after ops (o c)) c :=
  fun r hr => (StableHlo.after_of_writes_sub ops _ hW (hd r hr)).trans (h r hr)

/-- The link out of a line of operations. -/
theorem opsSeg_post (c : Dev nD) (ops : List (HloOp τ sig (Elt F))) (hS hf) (W : List (Ref sig .tc))
    (hW : ops.Forall fun op => op.writes ⊆ (W.map (Proc.devRef (τ := τ) .tc)).toFinset) (hd : ∀ r ∈ argRefs, r ∉ W) :
    (opsSeg m ops hS hf).post c ⊢ state m c :=
  CSeg.exSel_post c fun o ho => Pipeline.held_ex_intro (c : Thread nD τ) (Pipeline.ucRefs τ sig) (fun o : Vals F => o c) (fun o => Kept m o c) (rest c)
    (fun c => StableHlo.after ops (o c)) (StableHlo.after ops (o c)) (fun _ _ => rfl) (Kept.after m ho ops W hW hd)

/-- The link into a line of operations. -/
theorem opsSeg_pre (c : Dev nD) (ops : List (HloOp τ sig (Elt F))) (hS hf) : state m c ⊢ (opsSeg m ops hS hf).pre c :=
  CSeg.exSel_pre c fun _ _ => .rfl

/-- The program's items, as segments. -/
def segsB : List (HSeg m) :=
  [opsSeg m hostOps0 (fun op h => Pipeline.sub_ucRefs op ((List.forall_iff_forall_mem.mp hostOps0_sub) op h)) (fun op h => (List.forall_iff_forall_mem.mp hostOps0_fresh) op h),
   CSeg.regionFR (pcfgs (F := F)) adm () cellOf_inj defs₀ Variants.none L₀ lv₀ _ (tk m) 0
     (fun o : Vals F => Pipeline.toRsF (pcfgs (F := F)) adm (pdatsAt UB o o) fgts) (fun o => reg0F UB o o) (Kept m),
   opsSeg m hostOps1 (fun op h => Pipeline.sub_ucRefs op ((List.forall_iff_forall_mem.mp hostOps1_sub) op h)) (fun op h => (List.forall_iff_forall_mem.mp hostOps1_fresh) op h),
   CSeg.regionF (pcfgs (F := F)) adm () cellOf_inj defs₀ Variants.none L₀ lv₀ _ (tk m) 1
     (fun o : Vals F => pdatsAt UB o o) (fun o => reg1At UB o o) (Kept m),
   opsSeg m hostOps2 (fun op h => Pipeline.sub_ucRefs op ((List.forall_iff_forall_mem.mp hostOps2_sub) op h)) (fun op h => (List.forall_iff_forall_mem.mp hostOps2_fresh) op h)]

/-- The regions' links: buffers at a valuation with the arguments as launched, -/
theorem reg0_link (c : Dev nD) (o : Vals F) (ho : Kept m o c) : (reg0F UB o o).post c ⊢ state m c := by
  show iprop(∃ x : S20480.Idx → Elt F .f32, bufsAt UB (fun c => after0 UB o c x) c) ⊢ _
  iintro ⟨%x, H⟩
  iapply (state_post m c (fun c => after0 UB o c x) fun r hr => (after0_of UB o c x r ((by decide : ∀ r ∈ argRefs, r ∉ ([main_v1_0, main_v1_1, main_v1_2] : List (Ref sig .tc))) r hr)).trans (ho r hr)) $$ H
/-- after the second too. -/
theorem reg1_link (c : Dev nD) (o : Vals F) (ho : Kept m o c) : (reg1At UB o o).post c ⊢ state m c :=
  state_post m c (after1 UB o) fun r hr => (after1_of UB o c r ((by decide : ∀ r ∈ argRefs, r ∉ ([main_v9_0, main_v9_1] : List (Ref sig .tc))) r hr)).trans (ho r hr)

set_option backward.isDefEq.respectTransparency.types false in
/-- The links between the items on a core. -/
theorem chains (c : Dev nD) : CSeg.ChainsAt c (state m) (segsB m) fun c => iprop((∃ o : Vals F, StableHlo.held (c : Thread nD τ) (Pipeline.ucRefs τ sig) (o c) ∗ ⌜Kept m o c⌝) ∗ rest c) :=
  ⟨opsSeg_pre m c _ _ _,
    (opsSeg_post m c hostOps0 _ _ hostOps0_W hostOps0_writes (by decide)).trans (CSeg.regionFR_pre c fun o _ => state_pre c o),
    (CSeg.regionFR_post c fun o ho => reg0_link m c o ho).trans (opsSeg_pre m c _ _ _),
    (opsSeg_post m c hostOps1 _ _ hostOps1_W hostOps1_writes (by decide)).trans (CSeg.regionF_pre c fun o _ => state_pre c o),
    (CSeg.regionF_post c fun o ho => reg1_link m c o ho).trans (opsSeg_pre m c _ _ _),
    (opsSeg_post m c hostOps2 _ _ hostOps2_W hostOps2_writes (by decide)).trans (by
      iintro ⟨%o, Hh, %ho, HE⟩
      isplitl [Hh]
      · iexists o
        isplitl [Hh]; · iexact Hh
        ipureintro; exact ho
      iexact HE)⟩

/-- The program, its labels lifted past the host loops there are none of, is the items in order. -/
theorem main_lift (c : Dev nD) : HostLoop.liftProg (L := 0) (main (F := F) c) = CSeg.runL (segsB m) := by
  rw [main_chain, HostLoop.liftProg_chain]
  simp only [List.map_cons, List.map_nil, HostLoop.liftProg_seq]
  rfl

/-- No two items spend the same ticket. -/
theorem tickets_disjoint : (segsB m).Pairwise fun s s' => Disjoint s.T s'.T := by
  refine List.pairwise_map.mp (?_ : ((segsB m).map CSeg.T).Pairwise Disjoint)
  rw [show (segsB m).map CSeg.T = [∅, {0}, ∅, {1}, ∅] from rfl]
  simp

/-- The library's launch tokens, once per region. -/
def uB : UB := (fun _ => initOf (Pipeline.cells cfgs cellOf_inj) (Pipeline.launchToks cfgs cellOf_inj), 1)

set_option maxHeartbeats 1000000 in
set_option backward.isDefEq.respectTransparency.types false in
/-- The program's run at any float instance: it ends, the arguments as launched and every counter at zero. -/
theorem run_args : θ_run defs (onTc (τ := τ) (main (F := F))) ⟨m, fun _ => 0, ρ⟩
    (fun r => (∀ c : Dev nD, ∀ b ∈ argRefs, r.2.mem ((c.tc : Thread nD τ).loc b) = m ((c.tc : Thread nD τ).loc b)) ∧ r.2.sem = fun _ => 0) := by
  refine HostLoop.θ_run_of_lift (fun l : Fin 0 => l.elim0) _ _ _ _ ?_
  refine Pipeline.θ_run_regions_loop_kit_dev_sems (pcfgs (F := F)) adm cellOf_inj defs₀ Variants.none L₀ lv₀ (fun l : Fin 0 => l.elim0) (tk m) m ρ
    (fun c => HostLoop.liftProg (L := 0) (main (F := F) c)) (fun _ => segsB m)
    (fun c Q => by rw [main_lift m c])
    (fun _ => tickets_disjoint m)
    (O₀ := 0) (hL := fun _ _ => rfl) (G := fun _ => iprop(emp)) (u₀ := uB)
    (hu₀ := by
      unfold uB
      iintro Hu
      ihave H := (ownU_pair _ _) $$ Hu
      icases H with ⟨HP, -⟩
      imodintro
      isplitl [HP]; · iapply (own_iprod (J := Fin 2) (B := Counters) _) $$ HP
      iapply (show (BI.emp : sProp 𝕄) ⊢ bigSep Finset.univ (fun _ : Dev nD => (BI.emp : sProp 𝕄)) from by rw [BI.bigSep_emp_const])
      iempintro)
    (T₀ := state m) (Tₙ := fun c => iprop(∃ o : Vals F, StableHlo.held (c : Thread nD τ) (Pipeline.ucRefs τ sig) (o c) ∗ ⌜Kept m o c⌝))
    (hch := chains m)
    (hinit := by
      refine Pipeline.initEach L₀ lv₀ fun c => ?_
      rw [show unscopedBufs c (fun b => m ((c : Thread nD τ).loc b)) = StableHlo.held (c : Thread nD τ) (Pipeline.ucRefs τ sig) (V0 m c) from Pipeline.unscopedBufs_held (Ix := Unit) (Name := ℕ) (U := UB) (Lvl := ℕ) c (V0 m c)]
      iintro ⟨⟨Hh, -, HO, -, -, -⟩, -⟩
      imodintro
      iexists (V0 m)
      isplitl [Hh]; · iexact Hh
      isplitr; · ipureintro; exact fun _ _ => rfl
      iexists ∅; iexact HO)
    (QY := fun c s => ∀ b ∈ argRefs, s.mem ((c.tc : Thread nD τ).loc b) = m ((c.tc : Thread nD τ).loc b))
    (hfin := fun c s' => ?_) (hQ := fun _ h hz => ⟨h, funext fun g => hz g (.inr (regions_no_unscoped g.2))⟩)
  unfold StableHlo.held
  iintro ⟨⟨%o, Hh, %ho⟩, HSI⟩
  ihave Hr := (pointsTo_read_all (Pipeline.ucRefs τ sig) (fun b => ((c : Thread nD τ).1, b)) (o c) s') $$ [Hh HSI]
  · isplitl [Hh] <;> iassumption
  icases Hr with ⟨%h, HSI⟩
  imodintro
  isplitr
  · ipureintro
    exact fun b hb => (h (Proc.devRef .tc b) (Finset.mem_filter.mpr ⟨StableHlo.devRef_mem_tcRefs b,
      (by decide : ∀ b ∈ argRefs, ¬ (Proc.devRef .tc b : DevRef τ sig).isScoped) b hb⟩)).trans (ho b hb)
  · iexact HSI

end Cert.KernelIdeal.Value

end
-- ==== Proof.Bits.Same.lean ====
module

public import proofs.«01_k».proof.Proof.Gen.KernelIdeal.Launch
public import proofs.«01_k».proof.Proof.Gen.Kernel.Launch

@[expose] public section

set_option maxRecDepth 16384

noncomputable section

/-! The kernel's text and the text of its idealization are the same program at any float instance: what is proved of one is proved of the other. -/

namespace Cert.Same

open Idealize.ShloMosaic Idealize.SL Idealize.SL.Sem

attribute [local instance] Cert.Kernel.Gen.facts Cert.KernelIdeal.Gen.facts

variable {F : FTy → Type} [FloatOps F]

/-- The two texts of the first body agree, -/
theorem body0_eq : @Cert.Kernel.cc0__k1_body F _ _ = @Cert.KernelIdeal.cc0__k1_body F _ _ := rfl
/-- and of the second, -/
theorem body1_eq : @Cert.Kernel.cc1__k3_body F _ _ = @Cert.KernelIdeal.cc1__k3_body F _ _ := rfl
set_option maxHeartbeats 8000000 in
set_option backward.isDefEq.respectTransparency.types false in
/-- the first body's entry of the table of bodies, -/
theorem defs0_0 (x) : @Cert.Kernel.defs₀ F _ _ .tc 0 x = @Cert.KernelIdeal.defs₀ F _ _ .tc 0 x := by
  obtain ⟨t, s⟩ := x
  unfold Cert.Kernel.defs₀ Cert.KernelIdeal.defs₀
  simp only [Defs.onTc]
  rw [body0_eq]
  rfl
set_option maxHeartbeats 8000000 in
set_option backward.isDefEq.respectTransparency.types false in
/-- the second's, -/
theorem defs0_1 (x) : @Cert.Kernel.defs₀ F _ _ .tc 1 x = @Cert.KernelIdeal.defs₀ F _ _ .tc 1 x := by
  obtain ⟨t, s⟩ := x
  unfold Cert.Kernel.defs₀ Cert.KernelIdeal.defs₀
  simp only [Defs.onTc]
  rw [body1_eq]
  rfl
set_option maxHeartbeats 8000000 in
set_option backward.isDefEq.respectTransparency.types false in
/-- hence the tables, -/
theorem defs0_eq : @Cert.Kernel.defs₀ F _ _ = @Cert.KernelIdeal.defs₀ F _ _ := by
  funext k
  cases k with
  | tc =>
    funext l x
    match l, x with
    | 0, x => exact defs0_0 x
    | 1, x => exact defs0_1 x
  | scScalar _ => rfl
  | scVector _ _ => rfl
set_option maxHeartbeats 8000000 in
set_option backward.isDefEq.respectTransparency.types false in
/-- with the regions' entries added, -/
theorem defs_eq : @Cert.Kernel.defs F _ _ = @Cert.KernelIdeal.defs F _ _ := congrArg (Pipeline.defs Cert.KernelIdeal.pcfgs) defs0_eq

/-- The host's operations agree: before the first region, -/
theorem ops0_eq : @Cert.Kernel.Gen.hostOps0 F _ = @Cert.KernelIdeal.Gen.hostOps0 F _ := rfl
/-- between the two, -/
theorem ops1_eq : (Cert.Kernel.Gen.hostOps1 : List (HloOp _ _ (Elt F))) = Cert.KernelIdeal.Gen.hostOps1 := rfl
/-- and after the second, -/
theorem ops2_eq : (Cert.Kernel.Gen.hostOps2 : List (HloOp _ _ (Elt F))) = Cert.KernelIdeal.Gen.hostOps2 := rfl
set_option maxHeartbeats 8000000 in
set_option backward.isDefEq.respectTransparency.types false in
/-- and hence the programs. -/
theorem main_eq (c) : @Cert.Kernel.main F _ _ c = @Cert.KernelIdeal.main F _ _ c := by
  refine (Cert.Kernel.Gen.main_chain c).trans (Eq.trans ?_ (Cert.KernelIdeal.Gen.main_chain c).symm)
  rw [ops0_eq, ops1_eq, ops2_eq]
  rfl

end Cert.Same

end
-- ==== Proof.Bits.Frame.lean ====
module

public import proofs.«01_k».proof.Defs
public import proofs.«01_k».proof.Proof.Bits.Run
public import proofs.«01_k».proof.Proof.Bits.Same

@[expose] public section

set_option maxRecDepth 16384

noncomputable section

namespace Cert.Same

open Idealize.ShloMosaic Idealize.ShloMosaic.TcCoe Idealize.SL Idealize.SL.Sem

attribute [local instance] Cert.Kernel.Gen.facts Cert.KernelIdeal.Gen.facts

variable {F : FTy → Type} [FloatOps F]

/-- What the run of the idealization's text does, any equal program does. -/
theorem run_of_eq (m : (ℓ : Loc Cert.KernelIdeal.nD Cert.KernelIdeal.τ Cert.KernelIdeal.sig) → Buf (Elt F) ℓ) (ρ : Dev Cert.KernelIdeal.nD → PrngReg) (D M)
    (hD : D = Cert.KernelIdeal.defs (F := F)) (hM : M = Cert.KernelIdeal.main (F := F)) :
    θ_run D (onTc (τ := Cert.KernelIdeal.τ) M) ⟨m, fun _ => 0, ρ⟩
      (fun r => (∀ c : Dev Cert.KernelIdeal.nD, ∀ b ∈ Cert.KernelIdeal.Value.argRefs, r.2.mem ((c.tc : Thread Cert.KernelIdeal.nD Cert.KernelIdeal.τ).loc b) = m ((c.tc : Thread Cert.KernelIdeal.nD Cert.KernelIdeal.τ).loc b)) ∧ r.2.sem = fun _ => 0) := by
  subst hD hM
  exact Cert.KernelIdeal.Value.run_args m ρ

set_option maxHeartbeats 8000000 in
set_option backward.isDefEq.respectTransparency.types false in
/-- The kernel on words runs, leaves its arguments alone and ends with every counter at zero. -/
theorem frame_k : Cert.quiescent_Kernel (hKernel := Cert.Kernel.Gen.facts) := fun m ρ _ =>
  (θ_run Cert.Kernel.defs _ _).mono (fun _ h => ⟨fun c =>
      ⟨h.1 c _ (by decide : Cert.KernelIdeal.main_arg0 ∈ Cert.KernelIdeal.Value.argRefs),
       h.1 c _ (by decide : Cert.KernelIdeal.main_arg1 ∈ Cert.KernelIdeal.Value.argRefs),
       h.1 c _ (by decide : Cert.KernelIdeal.main_arg2 ∈ Cert.KernelIdeal.Value.argRefs),
       h.1 c _ (by decide : Cert.KernelIdeal.main_arg3 ∈ Cert.KernelIdeal.Value.argRefs),
       h.1 c _ (by decide : Cert.KernelIdeal.main_arg4 ∈ Cert.KernelIdeal.Value.argRefs),
       h.1 c _ (by decide : Cert.KernelIdeal.main_arg5 ∈ Cert.KernelIdeal.Value.argRefs),
       h.1 c _ (by decide : Cert.KernelIdeal.main_arg6 ∈ Cert.KernelIdeal.Value.argRefs),
       h.1 c _ (by decide : Cert.KernelIdeal.main_arg7 ∈ Cert.KernelIdeal.Value.argRefs),
       h.1 c _ (by decide : Cert.KernelIdeal.main_arg8 ∈ Cert.KernelIdeal.Value.argRefs),
       h.1 c _ (by decide : Cert.KernelIdeal.main_arg9 ∈ Cert.KernelIdeal.Value.argRefs),
       h.1 c _ (by decide : Cert.KernelIdeal.main_arg10 ∈ Cert.KernelIdeal.Value.argRefs),
       h.1 c _ (by decide : Cert.KernelIdeal.main_arg11 ∈ Cert.KernelIdeal.Value.argRefs),
       h.1 c _ (by decide : Cert.KernelIdeal.main_arg12 ∈ Cert.KernelIdeal.Value.argRefs)⟩, h.2⟩)
    (run_of_eq (F := Bits) m ρ Cert.Kernel.defs Cert.Kernel.main defs_eq (funext main_eq))

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Ideal.Run
public import proofs.«01_k».proof.Proof.Ideal.Score
public import proofs.«01_k».proof.Proof.Ideal.Final
public import proofs.«01_k».proof.Proof.Ideal.Ref
public import proofs.«01_k».proof.Proof.Ideal.Scores
public import proofs.«01_k».proof.Proof.Bits.Frame
public import Idealize.ShloMosaic.Lib.Quiescent

@[expose] public section

noncomputable section

/-! The proof of `Cert.Claim`: the frames of the kernel at the machine's numbers and at the ideal ones and of the reference, and the
    equality of their results at the ideal numbers.
    What the kernel does is in `Proof/Ideal/`: the two bodies (`Body0`, `Body1`), the two pipelined regions (`Region0`, `Region1`), the
    launch (`Launch`, `Regs`, `Run`), the arrays it leaves (`Arrays`, `States`, `Final`, `Scores`), and the comparison with the reference
    (`Ref`, `Scores`). The frame at the machine's numbers is in `Proof/Bits/`: that the two programs are one text (`Same`), the first region
    with its scores forgotten (`Forget`), the launch (`Run`) and the frame itself (`Frame`). -/

namespace Cert.Proof

open Idealize.ShloMosaic Idealize.SL.Sem

/-- The kernel at the ideal numbers runs, leaves its arguments alone and ends with every counter at zero. -/
theorem frame_ki : Cert.quiescent_KernelIdeal (hKernelIdeal := Cert.KernelIdeal.Gen.facts) := fun m ρ _ =>
  (θ_run Cert.KernelIdeal.defs _ _).mono (fun _ h => ⟨fun c => (h.1 c).2.2.2.2.2, h.2⟩)
    (Cert.KernelIdeal.Value.run_main (F := Ideal) m ρ Cert.KernelIdeal.Value.scoreFill_ideal)

/-- The reference at the ideal numbers runs and leaves its arguments alone; it has no counters. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The features the reference returns are those the kernel leaves, -/
theorem res_fs (m : (ℓ : Loc Cert.KernelIdeal.nD Cert.KernelIdeal.τ Cert.KernelIdeal.sig) → Buf (Elt Ideal) ℓ) (c : Dev Cert.KernelIdeal.nD)
    (y0 : Cert.KernelIdeal.S512.Idx → EReal) (y3 : Cert.KernelIdeal.S10240000.Idx → EReal)
    (h0 : y0 = m ((c.tc : Thread Cert.KernelIdeal.nD Cert.KernelIdeal.τ).loc Cert.KernelIdeal.main_arg0)) (h3 : y3 = m ((c.tc : Thread Cert.KernelIdeal.nD Cert.KernelIdeal.τ).loc Cert.KernelIdeal.main_arg3)) :
    Cert.ReferenceIdeal.Read.val_main_v37 (F := Ideal) y0 y3 = Cert.KernelIdeal.Gen.V5 m (Cert.KernelIdeal.Value.outs m) c (Proc.devRef .tc Cert.KernelIdeal.main_v1_0) := by
  subst h0 h3
  exact (ref_fs _ _).trans (Cert.KernelIdeal.Value.end_fs m c).symm

/-- the states the reference returns are those the kernel leaves, -/
theorem res_hs (m : (ℓ : Loc Cert.KernelIdeal.nD Cert.KernelIdeal.τ Cert.KernelIdeal.sig) → Buf (Elt Ideal) ℓ) (c : Dev Cert.KernelIdeal.nD)
    (y0 : Cert.KernelIdeal.S512.Idx → EReal) (y1 : Cert.KernelIdeal.S512.Idx → EReal) (y4 : Cert.KernelIdeal.S20000x1x1024.Idx → EReal) (y6 : Cert.KernelIdeal.S1.Idx → EReal) (y7 : Cert.KernelIdeal.S3072x1025.Idx → EReal) (y8 : Cert.KernelIdeal.S3072x1024.Idx → EReal) (y9 : Cert.KernelIdeal.S3072.Idx → EReal) (y10 : Cert.KernelIdeal.S3072.Idx → EReal)
    (h0 : y0 = m ((c.tc : Thread Cert.KernelIdeal.nD Cert.KernelIdeal.τ).loc Cert.KernelIdeal.main_arg0)) (h1 : y1 = m ((c.tc : Thread Cert.KernelIdeal.nD Cert.KernelIdeal.τ).loc Cert.KernelIdeal.main_arg1)) (h4 : y4 = m ((c.tc : Thread Cert.KernelIdeal.nD Cert.KernelIdeal.τ).loc Cert.KernelIdeal.main_arg4)) (h6 : y6 = m ((c.tc : Thread Cert.KernelIdeal.nD Cert.KernelIdeal.τ).loc Cert.KernelIdeal.main_arg6)) (h7 : y7 = m ((c.tc : Thread Cert.KernelIdeal.nD Cert.KernelIdeal.τ).loc Cert.KernelIdeal.main_arg7)) (h8 : y8 = m ((c.tc : Thread Cert.KernelIdeal.nD Cert.KernelIdeal.τ).loc Cert.KernelIdeal.main_arg8)) (h9 : y9 = m ((c.tc : Thread Cert.KernelIdeal.nD Cert.KernelIdeal.τ).loc Cert.KernelIdeal.main_arg9)) (h10 : y10 = m ((c.tc : Thread Cert.KernelIdeal.nD Cert.KernelIdeal.τ).loc Cert.KernelIdeal.main_arg10)) :
    Cert.ReferenceIdeal.Read.val_main_v39 (F := Ideal) y0 y1 y4 y6 y7 y8 y9 y10 = Cert.KernelIdeal.Gen.V5 m (Cert.KernelIdeal.Value.outs m) c (Proc.devRef .tc Cert.KernelIdeal.main_v9_0) := by
  subst h0 h1 h4 h6 h7 h8 h9 h10
  exact (ref_hs _ _ _ _ _ _ _ _).trans (Cert.KernelIdeal.Value.end_hs m c).symm

/-- so are the times, -/
theorem res_ts (m : (ℓ : Loc Cert.KernelIdeal.nD Cert.KernelIdeal.τ Cert.KernelIdeal.sig) → Buf (Elt Ideal) ℓ) (c : Dev Cert.KernelIdeal.nD)
    (y2 : Cert.KernelIdeal.S_.Idx → BitVec 32) (y5 : Cert.KernelIdeal.S20000.Idx → EReal)
    (h2 : y2 = m ((c.tc : Thread Cert.KernelIdeal.nD Cert.KernelIdeal.τ).loc Cert.KernelIdeal.main_arg2)) (h5 : y5 = m ((c.tc : Thread Cert.KernelIdeal.nD Cert.KernelIdeal.τ).loc Cert.KernelIdeal.main_arg5)) :
    Cert.ReferenceIdeal.Read.val_main_v41 (F := Ideal) y2 y5 = Cert.KernelIdeal.Gen.V5 m (Cert.KernelIdeal.Value.outs m) c (Proc.devRef .tc Cert.KernelIdeal.main_v11) := by
  subst h2 h5
  exact (ref_ts _ _).trans (Cert.KernelIdeal.Value.end_ts m c).symm

/-- and so are the scores. -/
theorem res_scores (m : (ℓ : Loc Cert.KernelIdeal.nD Cert.KernelIdeal.τ Cert.KernelIdeal.sig) → Buf (Elt Ideal) ℓ) (c : Dev Cert.KernelIdeal.nD)
    (y0 : Cert.KernelIdeal.S512.Idx → EReal) (y3 : Cert.KernelIdeal.S10240000.Idx → EReal)
    (h0 : y0 = m ((c.tc : Thread Cert.KernelIdeal.nD Cert.KernelIdeal.τ).loc Cert.KernelIdeal.main_arg0)) (h3 : y3 = m ((c.tc : Thread Cert.KernelIdeal.nD Cert.KernelIdeal.τ).loc Cert.KernelIdeal.main_arg3)) :
    Cert.ReferenceIdeal.Read.val_main_v43 (F := Ideal) y0 y3 = Cert.KernelIdeal.Gen.V5 m (Cert.KernelIdeal.Value.outs m) c (Proc.devRef .tc Cert.KernelIdeal.main_v12) := by
  subst h0 h3
  exact (ref_scores _ _).trans (Cert.KernelIdeal.Value.end_scores m c).symm

/-- The kernel and the reference return the same four arrays at the ideal numbers: the features with the new one behind them, the states
    with the new one behind them, the times with the new one behind them, and the score of every old row of the features. -/
theorem equal_ki_ri : Cert.algebraic_KernelIdeal_ReferenceIdeal (hKernelIdeal := Cert.KernelIdeal.Gen.facts) (hReferenceIdeal := Cert.ReferenceIdeal.Gen.facts) := by
  intro m ρ m' ρ' _ hag
  refine ⟨fun c => Cert.KernelIdeal.Gen.V5 m (Cert.KernelIdeal.Value.outs m) c (Proc.devRef .tc Cert.KernelIdeal.main_v1_0),
    fun c => Cert.KernelIdeal.Gen.V5 m (Cert.KernelIdeal.Value.outs m) c (Proc.devRef .tc Cert.KernelIdeal.main_v9_0),
    fun c => Cert.KernelIdeal.Gen.V5 m (Cert.KernelIdeal.Value.outs m) c (Proc.devRef .tc Cert.KernelIdeal.main_v11),
    fun c => Cert.KernelIdeal.Gen.V5 m (Cert.KernelIdeal.Value.outs m) c (Proc.devRef .tc Cert.KernelIdeal.main_v12),
    (θ_run Cert.KernelIdeal.defs _ _).mono (fun _ h c => (h.1 c).2)
      (Cert.KernelIdeal.Value.run_main (F := Ideal) m ρ Cert.KernelIdeal.Value.scoreFill_ideal),
    (θ_run Cert.ReferenceIdeal.defs _ _).mono (fun r h c => ⟨(h c).1.trans ?_, (h c).2.1.trans ?_, (h c).2.2.1.trans ?_, (h c).2.2.2.1.trans ?_, (h c).2.2.2.2⟩)
      (Cert.ReferenceIdeal.Value.run (F := Ideal) m' ρ')⟩
  all_goals obtain ⟨h0, h1, h2, h3, h4, h5, h6, h7, h8, h9, h10, _, _⟩ := hag c
  · exact res_fs m c _ _ h0 h3
  · exact (Cert.ReferenceIdeal.Read.val_main_v39_eq m' c).trans (res_hs m c _ _ _ _ _ _ _ _ h0 h1 h4 h6 h7 h8 h9 h10)
  · exact res_ts m c _ _ h2 h5
  · exact res_scores m c _ _ h0 h3

/-- Every claim of the statement. -/
theorem claim : Cert.Claim := ⟨Cert.Kernel.Gen.facts, Cert.KernelIdeal.Gen.facts, Cert.ReferenceIdeal.Gen.facts, Cert.Same.frame_k, frame_ki, frame_ri, trivial, equal_ki_ri⟩

end Cert.Proof

end
